-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x512 : Shape := ⟨2, ![512, 512]⟩
abbrev S2x3x2x512x128 : Shape := ⟨5, ![2, 3, 2, 512, 128]⟩
abbrev S2x3x2 : Shape := ⟨3, ![2, 3, 2]⟩
abbrev S_ : Shape := ⟨0, ![]⟩
abbrev S1x1x1 : Shape := ⟨3, ![1, 1, 1]⟩
abbrev S1x1x1x512x128 : Shape := ⟨5, ![1, 1, 1, 512, 128]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x512, .f32⟩
  | .hbm, ⟨2, _⟩ => ⟨S512x512, .f32⟩
  | .hbm, ⟨3, _⟩ => ⟨S2048x512, .f32⟩
  | .local _ .vmem, ⟨0, _⟩ => ⟨S2048x512, .f32⟩
  | .local _ .vmem, ⟨1, _⟩ => ⟨S512x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | .local _ .vmem, ⟨5, _⟩ => ⟨S2x3x2x512x128, .f32⟩
  | .local _ .vmem, ⟨6, _⟩ => ⟨S2x3x2x512x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_14 : BitVec 32 := 512#32
  let v25 : BitVec 32 := Scalar.muli v2 c512_i32_14
  let c0_i32_28 : BitVec 32 := 0#32
  ![v25.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_24 : BitVec 32 := 1#32
  let v26 : BitVec 32 := Scalar.muli v7 c1_i32_24
  let v27 : BitVec 32 := Scalar.addi c0_i32_25 v26
  v27.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_29 : BitVec 32 := 512#32
  let v35 : BitVec 32 := Scalar.muli v2 c512_i32_29
  let c256_i32 : BitVec 32 := 256#32
  ![v35.toNat, 256]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_39 : BitVec 32 := 1#32
  let v36 : BitVec 32 := Scalar.muli v5 c1_i32_39
  let v37 : BitVec 32 := Scalar.addi c0_i32_40 v36
  v37.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_43 : BitVec 32 := 512#32
  let v45 : BitVec 32 := Scalar.muli v2 c512_i32_43
  let c128_i32 : BitVec 32 := 128#32
  ![v45.toNat, 128]
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_53 : BitVec 32 := 1#32
  let v46 : BitVec 32 := Scalar.muli v7 c1_i32_53
  let v47 : BitVec 32 := Scalar.addi c0_i32_54 v46
  v47.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_57 : BitVec 32 := 512#32
  let v55 : BitVec 32 := Scalar.muli v2 c512_i32_57
  let c384_i32 : BitVec 32 := 384#32
  ![v55.toNat, 384]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_67 : BitVec 32 := 1#32
  let v56 : BitVec 32 := Scalar.muli v5 c1_i32_67
  let v57 : BitVec 32 := Scalar.addi c0_i32_68 v56
  v57.toNat
def k0_off6 (d0 : Dev nD) (c1_i32_71 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v65 : BitVec 32 := Scalar.addi v2 c1_i32_71
  let c4_i32_72 : BitVec 32 := 4#32
  let v66 : BitVec 32 := Scalar.addi v65 c4_i32_72
  let c4_i32_73 : BitVec 32 := 4#32
  let v67 : BitVec 32 := Scalar.remsi v66 c4_i32_73
  let c512_i32_74 : BitVec 32 := 512#32
  let v68 : BitVec 32 := Scalar.muli v67 c512_i32_74
  let v69 : Index := Scalar.indexCast v68
  let c0_75 : Index := 0#32
  ![v69.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_81 : BitVec 32 := 1#32
  let v80 : BitVec 32 := Scalar.subi v2 c1_i32_81
  let c4_i32_82 : BitVec 32 := 4#32
  let v81 : BitVec 32 := Scalar.addi v80 c4_i32_82
  let c4_i32_83 : BitVec 32 := 4#32
  let v82 : BitVec 32 := Scalar.remsi v81 c4_i32_83
  let c512_i32_84 : BitVec 32 := 512#32
  let v83 : BitVec 32 := Scalar.muli v82 c512_i32_84
  let v84 : Index := Scalar.indexCast v83
  let c0_85 : Index := 0#32
  ![v84.toNat, 0]
def k0_off8 (d0 : Dev nD) (c1_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : BitVec 32 := Scalar.subi v2 c1_i32_91
  let c4_i32_92 : BitVec 32 := 4#32
  let v96 : BitVec 32 := Scalar.addi v95 c4_i32_92
  let c4_i32_93 : BitVec 32 := 4#32
  let v97 : BitVec 32 := Scalar.remsi v96 c4_i32_93
  let c512_i32_124 : BitVec 32 := 512#32
  let v113 : BitVec 32 := Scalar.muli v97 c512_i32_124
  let v114 : Index := Scalar.indexCast v113
  let c0_125 : Index := 0#32
  ![v114.toNat, 0]
def k0_off9 (d0 : Dev nD) (c1_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : BitVec 32 := Scalar.subi v2 c1_i32_91
  let c4_i32_92 : BitVec 32 := 4#32
  let v96 : BitVec 32 := Scalar.addi v95 c4_i32_92
  let c4_i32_93 : BitVec 32 := 4#32
  let v97 : BitVec 32 := Scalar.remsi v96 c4_i32_93
  let c512_i32_133 : BitVec 32 := 512#32
  let v124 : BitVec 32 := Scalar.muli v97 c512_i32_133
  let c0_i32_147 : BitVec 32 := 0#32
  ![v124.toNat, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_143 : BitVec 32 := 1#32
  let v125 : BitVec 32 := Scalar.muli v7 c1_i32_143
  let v126 : BitVec 32 := Scalar.addi c0_i32_144 v125
  v126.toNat
def k0_off10 (d0 : Dev nD) (c1_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.addi v2 c1_i32_94
  let c4_i32_95 : BitVec 32 := 4#32
  let v99 : BitVec 32 := Scalar.addi v98 c4_i32_95
  let c4_i32_96 : BitVec 32 := 4#32
  let v100 : BitVec 32 := Scalar.remsi v99 c4_i32_96
  let c512_i32_175 : BitVec 32 := 512#32
  let v146 : BitVec 32 := Scalar.muli v100 c512_i32_175
  let v147 : Index := Scalar.indexCast v146
  let c256 : Index := 256#32
  ![v147.toNat, 256]
def k0_off11 (d0 : Dev nD) (c1_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.addi v2 c1_i32_94
  let c4_i32_95 : BitVec 32 := 4#32
  let v99 : BitVec 32 := Scalar.addi v98 c4_i32_95
  let c4_i32_96 : BitVec 32 := 4#32
  let v100 : BitVec 32 := Scalar.remsi v99 c4_i32_96
  let c512_i32_182 : BitVec 32 := 512#32
  let v157 : BitVec 32 := Scalar.muli v100 c512_i32_182
  let c256_i32_196 : BitVec 32 := 256#32
  ![v157.toNat, 256]
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_192 : BitVec 32 := 1#32
  let v158 : BitVec 32 := Scalar.muli v5 c1_i32_192
  let v159 : BitVec 32 := Scalar.addi c0_i32_193 v158
  v159.toNat
def k0_off12 (d0 : Dev nD) (c1_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : BitVec 32 := Scalar.subi v2 c1_i32_91
  let c4_i32_92 : BitVec 32 := 4#32
  let v96 : BitVec 32 := Scalar.addi v95 c4_i32_92
  let c4_i32_93 : BitVec 32 := 4#32
  let v97 : BitVec 32 := Scalar.remsi v96 c4_i32_93
  let c512_i32_224 : BitVec 32 := 512#32
  let v179 : BitVec 32 := Scalar.muli v97 c512_i32_224
  let v180 : Index := Scalar.indexCast v179
  let c128 : Index := 128#32
  ![v180.toNat, 128]
def k0_off13 (d0 : Dev nD) (c1_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : BitVec 32 := Scalar.subi v2 c1_i32_91
  let c4_i32_92 : BitVec 32 := 4#32
  let v96 : BitVec 32 := Scalar.addi v95 c4_i32_92
  let c4_i32_93 : BitVec 32 := 4#32
  let v97 : BitVec 32 := Scalar.remsi v96 c4_i32_93
  let c512_i32_232 : BitVec 32 := 512#32
  let v190 : BitVec 32 := Scalar.muli v97 c512_i32_232
  let c128_i32_246 : BitVec 32 := 128#32
  ![v190.toNat, 128]
def k0_dev9 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_242 : BitVec 32 := 1#32
  let v191 : BitVec 32 := Scalar.muli v7 c1_i32_242
  let v192 : BitVec 32 := Scalar.addi c0_i32_243 v191
  v192.toNat
def k0_off14 (d0 : Dev nD) (c1_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.addi v2 c1_i32_94
  let c4_i32_95 : BitVec 32 := 4#32
  let v99 : BitVec 32 := Scalar.addi v98 c4_i32_95
  let c4_i32_96 : BitVec 32 := 4#32
  let v100 : BitVec 32 := Scalar.remsi v99 c4_i32_96
  let c512_i32_274 : BitVec 32 := 512#32
  let v212 : BitVec 32 := Scalar.muli v100 c512_i32_274
  let v213 : Index := Scalar.indexCast v212
  let c384 : Index := 384#32
  ![v213.toNat, 384]
def k0_off15 (d0 : Dev nD) (c1_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.addi v2 c1_i32_94
  let c4_i32_95 : BitVec 32 := 4#32
  let v99 : BitVec 32 := Scalar.addi v98 c4_i32_95
  let c4_i32_96 : BitVec 32 := 4#32
  let v100 : BitVec 32 := Scalar.remsi v99 c4_i32_96
  let c512_i32_282 : BitVec 32 := 512#32
  let v223 : BitVec 32 := Scalar.muli v100 c512_i32_282
  let c384_i32_296 : BitVec 32 := 384#32
  ![v223.toNat, 384]
def k0_dev10 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_292 : BitVec 32 := 1#32
  let v224 : BitVec 32 := Scalar.muli v5 c1_i32_292
  let v225 : BitVec 32 := Scalar.addi c0_i32_293 v224
  v225.toNat
def k0_dev11 (d0 : Dev nD) : Nat :=
  let c0_i32_360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_359 : BitVec 32 := 1#32
  let v278 : BitVec 32 := Scalar.muli v7 c1_i32_359
  let v279 : BitVec 32 := Scalar.addi c0_i32_360 v278
  v279.toNat
def k0_dev12 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_410 : BitVec 32 := 1#32
  let v311 : BitVec 32 := Scalar.muli v5 c1_i32_410
  let v312 : BitVec 32 := Scalar.addi c0_i32_411 v311
  v312.toNat
def k0_dev13 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_461 : BitVec 32 := 1#32
  let v344 : BitVec 32 := Scalar.muli v7 c1_i32_461
  let v345 : BitVec 32 := Scalar.addi c0_i32_462 v344
  v345.toNat
def k0_dev14 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_512 : BitVec 32 := 1#32
  let v377 : BitVec 32 := Scalar.muli v5 c1_i32_512
  let v378 : BitVec 32 := Scalar.addi c0_i32_513 v377
  v378.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_517 : BitVec 32 := 1#32
  let v386 : BitVec 32 := Scalar.addi v2 c1_i32_517
  let c4_i32_518 : BitVec 32 := 4#32
  let v387 : BitVec 32 := Scalar.addi v386 c4_i32_518
  let c4_i32_519 : BitVec 32 := 4#32
  let v388 : BitVec 32 := Scalar.remsi v387 c4_i32_519
  let c512_i32_550 : BitVec 32 := 512#32
  let v404 : BitVec 32 := Scalar.muli v388 c512_i32_550
  let v405 : Index := Scalar.indexCast v404
  let c0_551 : Index := 0#32
  ![v405.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_517 : BitVec 32 := 1#32
  let v386 : BitVec 32 := Scalar.addi v2 c1_i32_517
  let c4_i32_518 : BitVec 32 := 4#32
  let v387 : BitVec 32 := Scalar.addi v386 c4_i32_518
  let c4_i32_519 : BitVec 32 := 4#32
  let v388 : BitVec 32 := Scalar.remsi v387 c4_i32_519
  let c512_i32_558 : BitVec 32 := 512#32
  let v415 : BitVec 32 := Scalar.muli v388 c512_i32_558
  let c0_i32_572 : BitVec 32 := 0#32
  ![v415.toNat, 0]
def k0_dev15 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_568 : BitVec 32 := 1#32
  let v416 : BitVec 32 := Scalar.muli v7 c1_i32_568
  let v417 : BitVec 32 := Scalar.addi c0_i32_569 v416
  v417.toNat
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_520 : BitVec 32 := 1#32
  let v389 : BitVec 32 := Scalar.subi v2 c1_i32_520
  let c4_i32_521 : BitVec 32 := 4#32
  let v390 : BitVec 32 := Scalar.addi v389 c4_i32_521
  let c4_i32_522 : BitVec 32 := 4#32
  let v391 : BitVec 32 := Scalar.remsi v390 c4_i32_522
  let c512_i32_600 : BitVec 32 := 512#32
  let v437 : BitVec 32 := Scalar.muli v391 c512_i32_600
  let v438 : Index := Scalar.indexCast v437
  let c256_601 : Index := 256#32
  ![v438.toNat, 256]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_520 : BitVec 32 := 1#32
  let v389 : BitVec 32 := Scalar.subi v2 c1_i32_520
  let c4_i32_521 : BitVec 32 := 4#32
  let v390 : BitVec 32 := Scalar.addi v389 c4_i32_521
  let c4_i32_522 : BitVec 32 := 4#32
  let v391 : BitVec 32 := Scalar.remsi v390 c4_i32_522
  let c512_i32_609 : BitVec 32 := 512#32
  let v448 : BitVec 32 := Scalar.muli v391 c512_i32_609
  let c256_i32_623 : BitVec 32 := 256#32
  ![v448.toNat, 256]
def k0_dev16 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_619 : BitVec 32 := 1#32
  let v449 : BitVec 32 := Scalar.muli v5 c1_i32_619
  let v450 : BitVec 32 := Scalar.addi c0_i32_620 v449
  v450.toNat
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_517 : BitVec 32 := 1#32
  let v386 : BitVec 32 := Scalar.addi v2 c1_i32_517
  let c4_i32_518 : BitVec 32 := 4#32
  let v387 : BitVec 32 := Scalar.addi v386 c4_i32_518
  let c4_i32_519 : BitVec 32 := 4#32
  let v388 : BitVec 32 := Scalar.remsi v387 c4_i32_519
  let c512_i32_651 : BitVec 32 := 512#32
  let v470 : BitVec 32 := Scalar.muli v388 c512_i32_651
  let v471 : Index := Scalar.indexCast v470
  let c128_652 : Index := 128#32
  ![v471.toNat, 128]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_517 : BitVec 32 := 1#32
  let v386 : BitVec 32 := Scalar.addi v2 c1_i32_517
  let c4_i32_518 : BitVec 32 := 4#32
  let v387 : BitVec 32 := Scalar.addi v386 c4_i32_518
  let c4_i32_519 : BitVec 32 := 4#32
  let v388 : BitVec 32 := Scalar.remsi v387 c4_i32_519
  let c512_i32_660 : BitVec 32 := 512#32
  let v481 : BitVec 32 := Scalar.muli v388 c512_i32_660
  let c128_i32_674 : BitVec 32 := 128#32
  ![v481.toNat, 128]
def k0_dev17 (d0 : Dev nD) : Nat :=
  let c0_i32_671 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_670 : BitVec 32 := 1#32
  let v482 : BitVec 32 := Scalar.muli v7 c1_i32_670
  let v483 : BitVec 32 := Scalar.addi c0_i32_671 v482
  v483.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_520 : BitVec 32 := 1#32
  let v389 : BitVec 32 := Scalar.subi v2 c1_i32_520
  let c4_i32_521 : BitVec 32 := 4#32
  let v390 : BitVec 32 := Scalar.addi v389 c4_i32_521
  let c4_i32_522 : BitVec 32 := 4#32
  let v391 : BitVec 32 := Scalar.remsi v390 c4_i32_522
  let c512_i32_702 : BitVec 32 := 512#32
  let v503 : BitVec 32 := Scalar.muli v391 c512_i32_702
  let v504 : Index := Scalar.indexCast v503
  let c384_703 : Index := 384#32
  ![v504.toNat, 384]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_520 : BitVec 32 := 1#32
  let v389 : BitVec 32 := Scalar.subi v2 c1_i32_520
  let c4_i32_521 : BitVec 32 := 4#32
  let v390 : BitVec 32 := Scalar.addi v389 c4_i32_521
  let c4_i32_522 : BitVec 32 := 4#32
  let v391 : BitVec 32 := Scalar.remsi v390 c4_i32_522
  let c512_i32_711 : BitVec 32 := 512#32
  let v514 : BitVec 32 := Scalar.muli v391 c512_i32_711
  let c384_i32_725 : BitVec 32 := 384#32
  ![v514.toNat, 384]
def k0_dev18 (d0 : Dev nD) : Nat :=
  let c0_i32_722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_721 : BitVec 32 := 1#32
  let v515 : BitVec 32 := Scalar.muli v5 c1_i32_721
  let v516 : BitVec 32 := Scalar.addi c0_i32_722 v515
  v516.toNat
def k0_dev19 (d0 : Dev nD) : Nat :=
  let c0_i32_772 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_771 : BitVec 32 := 1#32
  let v542 : BitVec 32 := Scalar.muli v7 c1_i32_771
  let v543 : BitVec 32 := Scalar.addi c0_i32_772 v542
  v543.toNat
def k0_dev20 (d0 : Dev nD) : Nat :=
  let c0_i32_824 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_823 : BitVec 32 := 1#32
  let v571 : BitVec 32 := Scalar.muli v5 c1_i32_823
  let v572 : BitVec 32 := Scalar.addi c0_i32_824 v571
  v572.toNat
def k0_dev21 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_875 : BitVec 32 := 1#32
  let v600 : BitVec 32 := Scalar.muli v7 c1_i32_875
  let v601 : BitVec 32 := Scalar.addi c0_i32_876 v600
  v601.toNat
def k0_dev22 (d0 : Dev nD) : Nat :=
  let c0_i32_928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_927 : BitVec 32 := 1#32
  let v629 : BitVec 32 := Scalar.muli v5 c1_i32_927
  let v630 : BitVec 32 := Scalar.addi c0_i32_928 v629
  v630.toNat
def k0_dev23 (d0 : Dev nD) : Nat :=
  let c0_i32_1001 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1000 : BitVec 32 := 1#32
  let v675 : BitVec 32 := Scalar.muli v7 c1_i32_1000
  let v676 : BitVec 32 := Scalar.addi c0_i32_1001 v675
  v676.toNat
def k0_dev24 (d0 : Dev nD) : Nat :=
  let c0_i32_1061 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1060 : BitVec 32 := 1#32
  let v706 : BitVec 32 := Scalar.muli v5 c1_i32_1060
  let v707 : BitVec 32 := Scalar.addi c0_i32_1061 v706
  v707.toNat
def k0_dev25 (d0 : Dev nD) : Nat :=
  let c0_i32_1121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1120 : BitVec 32 := 1#32
  let v737 : BitVec 32 := Scalar.muli v7 c1_i32_1120
  let v738 : BitVec 32 := Scalar.addi c0_i32_1121 v737
  v738.toNat
def k0_dev26 (d0 : Dev nD) : Nat :=
  let c0_i32_1181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1180 : BitVec 32 := 1#32
  let v768 : BitVec 32 := Scalar.muli v5 c1_i32_1180
  let v769 : BitVec 32 := Scalar.addi c0_i32_1181 v768
  v769.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x512, .f32⟩
  | .hbm, ⟨2, _⟩ => ⟨S512x2048, .f32⟩
  | .hbm, ⟨3, _⟩ => ⟨S2048x512, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.KernelIdealCommon.lean ====
/-
# The ring protocol of the kernel: copies, cells, contents, schedule

The kernel computes `(Σ_c x_c · W1_c) · W2_c` on a ring of four devices. Each device cuts its
partial product in four rows of blocks, a row in four quarters of 128 columns; quarters 0 and 1 travel to the
right (`d = 0`), quarters 2 and 3 to the left (`d = 1`). Twenty-four copies leave each device: three
steps that add partial sums on the way round (phase 0), and three that hand the finished sums round (phase 1).

This module names the copies, the semaphores they signal, the buffers they land in and the values they carry, and
lays down the schedule of the protocol: which copy pays which semaphore, and what the waiter is handed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, and the ring's (duties `Fin 2`) -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- The device `n` places after `c`. -/
def row (n : ℕ) (c : Dev nD) : Dev nD := ⟨(c.val + n) % 4, Nat.mod_lt _ (by decide)⟩

/-- The device `n` places upstream of `c` for direction `d`: copies of direction 0 go to the right, so upstream is
    the left; direction 1 the opposite. -/
def bk (d : Fin 2) (n : ℕ) (c : Dev nD) : Dev nD := if d = 0 then row (3 * n) c else row n c

theorem bk_bk (d : Fin 2) (a b : ℕ) (c : Dev nD) : bk d a (bk d b c) = bk d (a + b) c := by
  unfold bk row
  split <;> apply Fin.ext <;> dsimp only <;> omega

theorem bk_four (d : Fin 2) (c : Dev nD) : bk d 4 c = c := by revert c d; decide
theorem bk_one_three (d : Fin 2) (c : Dev nD) : bk d 1 (bk d 3 c) = c := by revert c d; decide
theorem bk_three_one (d : Fin 2) (c : Dev nD) : bk d 3 (bk d 1 c) = c := by revert c d; decide
theorem bk_zero (d : Fin 2) (c : Dev nD) : bk d 0 c = c := by revert c d; decide

/-- Moving every device `n` places upstream permutes the devices. -/
def bkEquiv (d : Fin 2) : Dev nD ≃ Dev nD := ⟨bk d 3, bk d 1, bk_one_three d, bk_three_one d⟩

/-! ## The copies -/

/-- A copy: its phase, its step in the phase, which of the two quarters of its direction, its direction. -/
abbrev Cp : Type := Fin 2 × Fin 3 × Fin 2 × Fin 2

/-- The number of the step a copy belongs to, over both phases. -/
def stepOf (x : Cp) : ℕ := 3 * x.1.val + x.2.1.val
abbrev jOf (x : Cp) : Fin 2 := x.2.2.1
abbrev dirOf (x : Cp) : Fin 2 := x.2.2.2

/-- The quarter of a row that direction `d` carries as its `j`-th. -/
def qd (j d : Fin 2) : Fin 4 := ⟨2 * d.val + j.val, by omega⟩

/-- The four copies of one step, in program order. -/
def stepCps (p : Fin 2) (s : Fin 3) : List Cp := [(p, s, 0, 0), (p, s, 0, 1), (p, s, 1, 0), (p, s, 1, 1)]

/-- All copies a device sends, in program order. -/
def allCps : List Cp := stepCps 0 0 ++ stepCps 0 1 ++ stepCps 0 2 ++ stepCps 1 0 ++ stepCps 1 1 ++ stepCps 1 2

/-- The copies that are left after the first `n`. -/
def rest (n : ℕ) : List Cp := allCps.drop n

/-! ## The buffers -/

abbrev xM : Memref sig .tc .vmem S2048x512 .f32 := Memref.whole cc0_stg0_0
abbrev w1M : Memref sig .tc .vmem S512x512 .f32 := Memref.whole cc0_stg1_0
abbrev w2M : Memref sig .tc .vmem S512x512 .f32 := Memref.whole cc0_stg2_0
abbrev oM : Memref sig .tc .vmem S2048x512 .f32 := Memref.whole cc0_stg3_0
abbrev hM : Memref sig .tc .vmem S2048x512 .f32 := Memref.whole cc0_scratch0

/-- The landing buffer of a phase. -/
abbrev commM (p : Fin 2) : Memref sig .tc .vmem S2x3x2x512x128 .f32 := match p with
  | 0 => Memref.whole cc0_scratch1
  | 1 => Memref.whole cc0_scratch2

theorem row_inb (k : Dev nD) : ∀ a, (![512 * k.val, 0] : Fin 2 → ℕ) a + S512x512.size a ≤ S2048x512.size a := by revert k; decide
theorem q_inb (k : Dev nD) (q : Fin 4) : ∀ a, (![512 * k.val, 128 * q.val] : Fin 2 → ℕ) a + S512x128.size a ≤ S2048x512.size a := by
  revert k q; decide
theorem quart_inb (q : Fin 4) : ∀ a, (![0, 128 * q.val] : Fin 2 → ℕ) a + S512x128.size a ≤ S512x512.size a := by revert q; decide
theorem slot_inb (s : Fin 3) (j d : Fin 2) :
    ∀ a, (![d.val, s.val, j.val, 0, 0] : Fin 5 → ℕ) a + S1x1x1x512x128.size a ≤ S2x3x2x512x128.size a := by revert s j d; decide

/-- Row `k` of blocks of a 2048 × 512 array. -/
abbrev rowR (k : Dev nD) : Rect S2048x512 := Rect.unit ![512 * k.val, 0] S512x512.size (row_inb k)
/-- Quarter `q` of row `k`. -/
abbrev qR (k : Dev nD) (q : Fin 4) : Rect S2048x512 := Rect.unit ![512 * k.val, 128 * q.val] S512x128.size (q_inb k q)
/-- Quarter `q` of a 512 × 512 block. -/
abbrev quartR (q : Fin 4) : Rect S512x512 := Rect.unit ![0, 128 * q.val] S512x128.size (quart_inb q)
/-- A slot of a landing buffer, with its leading axes of size one. -/
abbrev slotR (s : Fin 3) (j d : Fin 2) : Rect S2x3x2x512x128 :=
  Rect.unit ![d.val, s.val, j.val, 0, 0] S1x1x1x512x128.size (slot_inb s j d)

/-- The slot a copy lands in. -/
abbrev slotM (x : Cp) : Memref sig .tc .vmem S512x128 .f32 :=
  ((commM x.1).slice (slotR x.2.1 x.2.2.1 x.2.2.2) (fun _ => rfl)).squeeze S512x128 squeezes_S1x1x1x512x128_S512x128

/-! ## The cells -/

/-- The runtime's barrier semaphore. -/
abbrev barS : Sem sig := (SemArray.scalar (sig.barrier 0 rfl) : Sems sig S_).sem

/-- The semaphore of a copy: 0 its sender's, 1 its receiver's. -/
def dsem (b : Fin 2) (x : Cp) : DmaSem sig :=
  ⟨4 + 24 * x.1.val + 12 * b.val + 6 * x.2.2.2.val + 2 * x.2.1.val + x.2.2.1.val, by
    have h1 := x.1.isLt; have h2 := b.isLt; have h3 := x.2.2.2.isLt; have h4 := x.2.1.isLt; have h5 := x.2.2.1.isLt
    show _ < 52
    omega⟩

/-- A cell of one device's protocol: the barrier, or a copy's send (0) or receive (1) semaphore. -/
abbrev KIx : Type := Option (Fin 2 × Cp)

instance : DecidableEq KIx := inferInstanceAs (DecidableEq (Option (Fin 2 × Fin 2 × Fin 3 × Fin 2 × Fin 2)))

def csem : KIx → SemLoc sig
  | none => .reg barS
  | some (b, x) => .dma (dsem b x)

/-- The kernel's own semaphores, as the launch indexes them. -/
abbrev osem : Fin 2 × Cp → SemLoc sig := fun k => .dma (dsem k.1 k.2)

abbrev kcell (ck : Dev nD × KIx) : GSem nD τ sig := ((ck.1 : Thread nD τ), csem ck.2)
abbrev barCell (c : Dev nD) : GSem nD τ sig := ((c : Thread nD τ), .reg barS)
abbrev sendCell (x : Cp) (c : Dev nD) : GSem nD τ sig := ((c : Thread nD τ), .dma (dsem 0 x))
abbrev recvCell (x : Cp) (c : Dev nD) : GSem nD τ sig := ((c : Thread nD τ), .dma (dsem 1 x))

/-- Which copy a transfer semaphore belongs to. -/
def decode (q : DmaSem sig) : Option (Fin 2 × Cp) :=
  if 4 ≤ q.val then
    some (⟨(q.val - 4) % 24 / 12, by omega⟩, ⟨(q.val - 4) / 24, by have : q.val < 52 := q.isLt; omega⟩,
      ⟨(q.val - 4) % 6 / 2, by omega⟩, ⟨(q.val - 4) % 2, by omega⟩, ⟨(q.val - 4) % 12 / 6, by omega⟩)
  else none

theorem decode_dsem : ∀ (b : Fin 2) (x : Cp), decode (dsem b x) = some (b, x) := by decide +kernel

/-- Which of the protocol's cells a semaphore is. -/
def cellIx : SemLoc sig → Option KIx
  | .reg s => if s = barS then some none else none
  | .dma q => (decode q).map some

theorem cellIx_csem (k : KIx) : cellIx (csem k) = some k := by
  rcases k with _ | ⟨b, x⟩
  · show (if barS = barS then some none else none) = _
    exact if_pos rfl
  · show (decode (dsem b x)).map some = _
    rw [decode_dsem]; rfl

theorem cellIx_bar : cellIx (.reg barS) = some none := cellIx_csem none
theorem cellIx_dma (b : Fin 2) (x : Cp) : cellIx (.dma (dsem b x)) = some (some (b, x)) := cellIx_csem (some (b, x))

theorem csem_injective : Function.Injective csem := fun a b h => by
  have := congrArg cellIx h
  rw [cellIx_csem, cellIx_csem] at this
  exact Option.some.inj this

/-- The credit one copy raises its semaphores by. -/
def N : ℕ := (slotM (0, 0, 0, 0)).view.dmaCredit
theorem N_pos : 0 < N := View.dmaCredit_pos _ (by decide)

/-! ## Contents -/

/-- The blocks of the three arguments on a device, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))
def w1stg (c : Dev nD) : (cc0_stg1_0 : Ref sig .tc).ty.Contents (Elt F) :=
  (win0_1.blk (0 : Fin 1)).view.read (Elt F) ((s₀ m ρ).mem ((c : Thread nD τ).loc main_arg1))
def w2stg (c : Dev nD) : (cc0_stg2_0 : Ref sig .tc).ty.Contents (Elt F) :=
  (win0_2.blk (0 : Fin 1)).view.read (Elt F) ((s₀ m ρ).mem ((c : Thread nD τ).loc main_arg2))

/-- Row `k` of blocks of a 2048 × 512 array. -/
def rowOf (X : Vec F S2048x512 .f32) (k : Dev nD) : Vec F S512x512 .f32 := fun i => X ((rowR k).emb i)
/-- Quarter `q` of a block. -/
def quart (X : Vec F S512x512 .f32) (q : Fin 4) : Vec F S512x128 .f32 := fun i => X ((quartR q).emb i)
/-- A quarter as a landing buffer's slot shows it, with three leading axes of size one. -/
def unsq (X : Vec F S512x128 .f32) : Vec F S1x1x1x512x128 .f32 :=
  fun i => X ((Shape.reshapeEquiv squeezes_S1x1x1x512x128_S512x128.numel_eq).symm i)
/-- A quarter plus a quarter that has landed. -/
def addV (X Y : Vec F S512x128 .f32) : Vec F S512x128 .f32 := k0_pay6 X (unsq Y)

/-- Device `c`'s own partial product for row `k` of blocks. -/
def part (c k : Dev nD) : Vec F S512x512 .f32 := k0_pay2 (rowOf (xstg m ρ c) k) (w1stg m ρ c)

/-- What the copy of step `g`, quarter `(j, d)`, carries from device `c`: at step 0 its own partial of its own row;
    up to step 3 what came in, plus its own partial of that row; after that what came in. -/
def V : ℕ → Fin 2 → Fin 2 → Dev nD → Vec F S512x128 .f32
  | 0, j, d, c => quart (part m ρ c c) (qd j d)
  | g + 1, j, d, c => if g < 3 then addV (quart (part m ρ c (bk d (g + 1) c)) (qd j d)) (V g j d (bk d 1 c)) else V g j d (bk d 1 c)

theorem V_zero (j d : Fin 2) (c : Dev nD) : V m ρ 0 j d c = quart (part m ρ c c) (qd j d) := rfl
theorem V_add (g : ℕ) (hg : g < 3) (j d : Fin 2) (c k : Dev nD) (q : Fin 4) (hk : k = bk d (g + 1) c) (hq : q = qd j d) :
    addV (quart (part m ρ c k) q) (V m ρ g j d (bk d 1 c)) = V m ρ (g + 1) j d c := by
  subst hk hq; exact (if_pos hg).symm
theorem V_pass (g : ℕ) (hg : 3 ≤ g) (j d : Fin 2) (c : Dev nD) : V m ρ (g + 1) j d c = V m ρ g j d (bk d 1 c) :=
  if_neg (by omega)

/-- The finished sum of quarter `(j, d)` of row `k`. -/
def fin (j d : Fin 2) (k : Dev nD) : Vec F S512x128 .f32 := V m ρ 3 j d (bk d 1 k)

/-- What is handed round in phase 1 is the finished sum of the row it belongs to. -/
theorem V_fin (n : ℕ) (j d : Fin 2) (c : Dev nD) : V m ρ (n + 3) j d c = fin m ρ j d (bk d (n + 3) c) := by
  induction n generalizing c with
  | zero => unfold fin; rw [bk_bk]; exact congrArg _ (bk_four d c).symm
  | succ n ih =>
    rw [show n + 1 + 3 = (n + 3) + 1 from by omega, V_pass m ρ (n + 3) (by omega), ih, bk_bk]

/-! ## Owning tiles -/

/-- Device `c` owns quarter `q` of row `k` of its partial-sum buffer, at value `X`. -/
def hq (c k : Dev nD) (q : Fin 4) (X : Vec F S512x128 .f32) : sProp 𝕄 :=
  owns (c : Thread nD τ) (hM.slice (qR k q) (fun _ => rfl)) fullShare X
/-- Device `c` owns row `k` of a 2048 × 512 buffer, at value `X`. -/
def rowO (M : Memref sig .tc .vmem S2048x512 .f32) (c k : Dev nD) (X : Vec F S512x512 .f32) : sProp 𝕄 :=
  owns (c : Thread nD τ) (M.slice (rowR k) (fun _ => rfl)) fullShare X
/-- Device `c` owns the slot copy `x` lands in, at share `q` and value `X`. -/
def slotO (x : Cp) (c : Dev nD) (q : PosShare TreeShare) (X : Vec F S512x128 .f32) : sProp 𝕄 :=
  owns (c : Thread nD τ) (slotM x) q X
/-- Device `c` owns that slot at some value. -/
def slotE (x : Cp) (c : Dev nD) : sProp 𝕄 := iprop(∃ X : Vec F S512x128 .f32, slotO x c fullShare X)

omit [FloatOps F] in
instance hq_storable (c k : Dev nD) (q) (X) : BI.Storable (upEmb : UEmb _ 𝕄) (hq (F := F) c k q X) := by unfold hq; infer_instance
omit [FloatOps F] in
instance slotO_storable (x c q X) : BI.Storable (upEmb : UEmb _ 𝕄) (slotO (F := F) x c q X) := by unfold slotO; infer_instance
omit [FloatOps F] in
instance slotE_storable (x c) : BI.Storable (upEmb : UEmb _ 𝕄) (slotE (F := F) x c) := by unfold slotE; infer_instance

/-! ## The schedule -/

/-- The step of phase 1 that a copy forwards, as a copy: the one whose slot it reads. -/
abbrev prevCp (s : Fin 3) (j d : Fin 2) : Cp := match s with
  | 0 => (0, 2, j, d)
  | 1 => (1, 0, j, d)
  | 2 => (1, 1, j, d)

/-- What the wait on a copy's send semaphore returns: the tile the copy reads — a quarter of the partial-sum buffer, or
    in the last two steps half the share of the slot being forwarded. -/
def sendPay (x : Cp) (c : Dev nD) : sProp 𝕄 := match x with
  | (0, s, j, d) => hq c (bk d s.val c) (qd j d) (V m ρ s.val j d c)
  | (1, 0, j, d) => hq c (bk d 3 c) (qd j d) (V m ρ 3 j d c)
  | (1, 1, j, d) => slotO (1, 0, j, d) c fullShare.left (V m ρ 4 j d c)
  | (1, 2, j, d) => slotO (1, 1, j, d) c fullShare.left (V m ρ 5 j d c)
/-- What the wait on a copy's receive semaphore returns: the slot, holding what the upstream device sent. -/
def recvPay (x : Cp) (c : Dev nD) : sProp 𝕄 := slotO x c fullShare (V m ρ (stepOf x) (jOf x) (dirOf x) (bk (dirOf x) 1 c))
/-- What a signal of the entry barrier hands device `c`: all slots of one direction on the device it will send to. -/
def barPay (d : Fin 2) (c : Dev nD) : sProp 𝕄 :=
  bigSep Finset.univ fun y : Fin 2 × Fin 3 × Fin 2 => slotE (y.1, y.2.1, y.2.2, d) (bk d 3 c)

instance sendPay_storable (x c) : BI.Storable (upEmb : UEmb _ 𝕄) (sendPay (F := F) m ρ x c) := by
  unfold sendPay; split <;> infer_instance
instance recvPay_storable (x c) : BI.Storable (upEmb : UEmb _ 𝕄) (recvPay (F := F) m ρ x c) := by unfold recvPay; infer_instance
omit [FloatOps F] in
instance barPay_storable (d c) : BI.Storable (upEmb : UEmb _ 𝕄) (barPay (F := F) d c) := by unfold barPay; infer_instance

/-- The payload of a cell's duty. -/
def payOf (k : Option KIx) (c : Dev nD) (d : Fin 2) : sProp 𝕄 := match k with
  | none => iprop(emp)
  | some none => barPay d c
  | some (some (0, x)) => sendPay m ρ x c
  | some (some (1, x)) => recvPay m ρ x c
instance payOf_storable (k c d) : BI.Storable (upEmb : UEmb _ 𝕄) (payOf (F := F) m ρ k c d) := by
  unfold payOf; split <;> infer_instance

/-- The duties of a cell: two signals for a barrier, one transfer for a copy's semaphore. -/
def dutOf : Option KIx → Finset (Fin 2)
  | none => ∅
  | some none => Finset.univ
  | some (some _) => {0}
/-- What each duty raises the cell by. -/
def amtOf : Option KIx → ℕ
  | some none => 1
  | _ => N

/-- The schedule: one round on every cell. -/
def ringRd : Rounds.Schedule (GSem nD τ sig) (Fin 2) 𝕄 where
  duties g r := if r = 0 ∧ g.1.2 = .tc then dutOf (cellIx g.2) else ∅
  unitless _ := False
  amount g _ _ := amtOf (cellIx g.2)
  payload g _ d := payOf m ρ (cellIx g.2) g.1.1 d
  amount_pos g _ _ _ := by
    unfold amtOf
    split
    · exact Nat.one_pos
    · exact N_pos

instance ringRd_payload_storable (g : GSem nD τ sig) (r : ℕ) (d : Fin 2) :
    BI.Storable (upEmb : UEmb _ 𝕄) ((ringRd (F := F) m ρ).payload g r d) := payOf_storable m ρ _ _ _

section Sched
variable (c : Dev nD) (b : Fin 2) (x : Cp)

theorem duties_bar : (ringRd (F := F) m ρ).duties (barCell c) 0 = Finset.univ := by
  dsimp only [ringRd]; rw [if_pos ⟨rfl, rfl⟩, cellIx_bar]; rfl
theorem duties_dma : (ringRd (F := F) m ρ).duties ((c : Thread nD τ), .dma (dsem b x)) 0 = {0} := by
  dsimp only [ringRd]; rw [if_pos ⟨rfl, rfl⟩, cellIx_dma]; rfl
theorem duties_later (g : GSem nD τ sig) : ∀ r, 1 ≤ r → (ringRd (F := F) m ρ).duties g r = ∅ :=
  fun r hr => by dsimp only [ringRd]; rw [if_neg fun h => by omega]
theorem amount_bar (d : Fin 2) : (ringRd (F := F) m ρ).amount (barCell c) 0 d = 1 := by dsimp only [ringRd]; rw [cellIx_bar]; rfl
theorem amount_dma (d : Fin 2) : (ringRd (F := F) m ρ).amount ((c : Thread nD τ), .dma (dsem b x)) 0 d = N := by
  dsimp only [ringRd]; rw [cellIx_dma]; rfl
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_fin, smul_eq_mul]
theorem expect_dma : (ringRd (F := F) m ρ).expect ((c : Thread nD τ), .dma (dsem b x)) 0 = N := by
  unfold Schedule.expect Schedule.amountOf; rw [duties_dma, Finset.sum_singleton, amount_dma]
theorem payload_bar (d : Fin 2) : (ringRd (F := F) m ρ).payload (barCell c) 0 d = barPay d c := by
  dsimp only [ringRd]; rw [cellIx_bar]; rfl
theorem payload_send (d : Fin 2) : (ringRd (F := F) m ρ).payload (sendCell x c) 0 d = sendPay m ρ x c := by
  dsimp only [ringRd]; rw [cellIx_dma]; rfl
theorem payload_recv (d : Fin 2) : (ringRd (F := F) m ρ).payload (recvCell x c) 0 d = recvPay m ρ x c := by
  dsimp only [ringRd]; rw [cellIx_dma]; rfl

/-- The whole of a barrier's round: both directions' slots. -/
theorem rest_bar : bigSep ((ringRd (F := F) m ρ).duties (barCell c) 0 \ ∅) (fun d => (ringRd (F := F) m ρ).payload (barCell c) 0 d)
    = iprop(barPay 0 c ∗ barPay 1 c) := by
  rw [Finset.sdiff_empty, duties_bar, bigSep_univ_eq_bigSepL [0, 1] (by decide) (by decide), bigSepL_cons_cons, bigSepL_singleton,
    payload_bar, payload_bar]
  rfl
theorem rest_send : bigSep ((ringRd (F := F) m ρ).duties (sendCell x c) 0 \ ∅) (fun d => (ringRd (F := F) m ρ).payload (sendCell x c) 0 d) = sendPay m ρ x c := by
  rw [Finset.sdiff_empty, duties_dma, bigSep_singleton, payload_send]
theorem rest_recv : bigSep ((ringRd (F := F) m ρ).duties (recvCell x c) 0 \ ∅) (fun d => (ringRd (F := F) m ρ).payload (recvCell x c) 0 d) = recvPay m ρ x c := by
  rw [Finset.sdiff_empty, duties_dma, bigSep_singleton, payload_recv]

end Sched

/-! ## What each core owes; the levels -/

/-- Device `c` owes, for each copy of the list, the receive credit on the device downstream. -/
def owe (c : Dev nD) : List Cp → CellTallies nD τ sig Unit
  | [] => 0
  | x :: l => owe c l + tallyAt (recvCell x (bk (dirOf x) 3 c)) () N

/-- What device `c` owes at launch: all copies, and one unit on each neighbour's barrier (the left's is paid first). -/
def O₀ (c : Dev nD) : CellTallies nD τ sig Unit := owe c allCps + tallyAt (barCell (row 1 c)) () 1 + tallyAt (barCell (row 3 c)) () 1

def L (g : GSem nD τ sig) : Finset Unit := if g.1.2 = .tc then {()} else ∅
/-- The level of a cell: staging and send cells 0, barriers 1, the receive cells of step `g` at `2 + g`. -/
def lvOf : Option KIx → ℕ
  | none => 0
  | some none => 1
  | some (some (0, _)) => 0
  | some (some (1, x)) => 2 + stepOf x
def lv (g : GSem nD τ sig) (_ : Unit) : ℕ := lvOf (cellIx g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [cellIx_bar]; rfl
theorem lv_send (x : Cp) (c : Dev nD) (u : Unit) : lv (sendCell x c) u = 0 := by unfold lv; rw [cellIx_dma]; rfl
theorem lv_recv (x : Cp) (c : Dev nD) (u : Unit) : lv (recvCell x c) u = 2 + stepOf x := by unfold lv; rw [cellIx_dma]; rfl

theorem owe_pos {c : Dev nD} {l : List Cp} {g : GSem nD τ sig} {u : Unit} (h : 0 < owe c l g u) :
    ∃ x ∈ l, g = recvCell x (bk (dirOf x) 3 c) := by
  induction l with
  | nil => exact absurd h (Nat.lt_irrefl 0)
  | cons x l ih =>
    unfold owe at h
    rw [Pi.add_apply, Finsupp.add_apply, tallyAt_apply] at h
    by_cases hg : g = recvCell x (bk (dirOf x) 3 c) ∧ u = ()
    · exact ⟨x, List.mem_cons_self, hg.1⟩
    · rw [if_neg hg] at h
      obtain ⟨y, hy, e⟩ := ih h
      exact ⟨y, List.mem_cons_of_mem _ hy, e⟩

omit [FloatOps F] in
/-- A device that owes only copies of later steps may wait on a cell of a lower level. -/
theorem mayWait_of (c : Dev nD) (sm : SemLoc sig) (l : List Cp) (n : ℕ) (hn : lv ((c : Thread nD τ), sm) () ≤ n)
    (hl : ∀ x ∈ l, n < 2 + stepOf x) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hn)
    (fun g u hg => by obtain ⟨x, hx, rfl⟩ := owe_pos hg; rw [lv_recv]; exact hl x hx)

/-! ## The cells' records -/

/-- The invariants of all cells of all devices, and that all are at round 0. -/
def records (K : Dev nD × KIx → ℕ) : sProp 𝕄 :=
  iprop((bigSep Finset.univ fun ck : Dev nD × KIx => cellInv ER (ringRd m ρ) (K ck) (kcell ck))
    ∗ bigSep Finset.univ fun ck : Dev nD × KIx => reached ER (kcell ck) 0)

/-- What every step may use: the records and the levels. -/
def env (K : Dev nD × KIx → ℕ) : sProp 𝕄 := iprop(records m ρ K ∗ levAts L lv)

instance records_persistent (K : Dev nD × KIx → ℕ) : BI.Persistent (records m ρ K) := by unfold records; infer_instance
instance env_persistent (K : Dev nD × KIx → ℕ) : BI.Persistent (env m ρ K) := by unfold env; infer_instance

variable (K : Dev nD × KIx → ℕ)

theorem env_lev : env m ρ K ⊢ (levAts L lv : sProp 𝕄) := by unfold env; iintro ⟨-, H⟩; iexact H
theorem env_inv (ck : Dev nD × KIx) : env m ρ K ⊢ cellInv ER (ringRd m ρ) (K ck) (kcell ck) := by
  unfold env records
  iintro ⟨⟨H, -⟩, -⟩
  iapply (show (bigSep Finset.univ fun ck : Dev nD × KIx => (cellInv ER (ringRd m ρ) (K ck) (kcell ck) : sProp 𝕄)) ⊢ cellInv ER (ringRd m ρ) (K ck) (kcell ck)
    from bigSep_elim (Finset.mem_univ ck)) $$ H
theorem env_reached (ck : Dev nD × KIx) : env m ρ K ⊢ reached ER (kcell ck) 0 := by
  unfold env records
  iintro ⟨⟨-, H⟩, -⟩
  iapply (show (bigSep Finset.univ fun ck : Dev nD × KIx => (reached ER (kcell ck) 0 : sProp 𝕄)) ⊢ reached ER (kcell ck) 0
    from bigSep_elim (Finset.mem_univ ck)) $$ H

end Cert.KernelIdealProof

end
-- ==== Proof.KernelIdealTiles.lean ====
/-
# Tiles: loading and storing them, cutting and joining them

The steps of the kernel that touch memory, as rules on owned tiles: a load continues at the tile's value, a store
leaves the value stored. A row of blocks is its four quarters, a 2048 × 512 buffer its four rows.
-/
module

public import proofs.«01_k».proof.Proof.KernelIdealCommon
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev WP (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## Loads and stores -/

section Steps

variable {α : Type} {Q : α → sProp (MT nD τ sig Unit (Elt F) ℕ UU ℕ)}

/-- A load of a tile continues at its value. -/
theorem ld_tile (c : Dev nD) {s : Shape} {m : Memref sig .tc .vmem s .f32} {r : Rect s} (hr : ∀ a, r.stride a = 1)
    (q : PosShare TreeShare) (X : r.shape.Idx → Elt F .f32) {hl : m.view.LoadsAt r.toLoadRect}
    {k : (r.shape.Idx → Elt F .f32) → Prog (TpuEff nD τ sig (Elt F) Λ₀ .tc) α} :
    owns (c : Thread nD τ) (m.slice r hr) q X
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (S := (m.access r).set) (f := f) (Finset.Subset.refl _)) $$ H
  iintro H
  rw [show (m.access r).read (Elt F) f = X from hf]
  iapply Hk
  iexists f
  isplitr; · ipureintro; exact hf
  iexact H

/-- A store through a tile leaves the value stored. -/
theorem st_tile (c : Dev nD) {s : Shape} {m : Memref sig .tc .vmem s .f32} {r : Rect s} (hr : ∀ a, r.stride a = 1)
    (X w Y : r.shape.Idx → Elt F .f32) (hw : w = Y) {hx : (m.access r).Stores Finset.univ} {hm : (Finset.univ : Finset r.shape.Idx) = Finset.univ ∨ ∀ a, r.stride a = 1}
    {k : PUnit → Prog (TpuEff nD τ sig (Elt F) Λ₀ .tc) α} :
    owns (c : Thread nD τ) (m.slice r hr) fullShare X
      ⊢ iprop((owns (c : Thread nD τ) (m.slice r hr) fullShare Y -∗ WP c (k ⟨⟩) Q) -∗ WP c (.op (.store m r w Finset.univ hx hm) k) Q) := by
  subst hw
  unfold owns
  iintro ⟨%f, %hf, H⟩ Hk
  iapply (wp_store 𝒱₀ (c : Thread nD τ) none Set.univ (m := m) (r := r) (w := w) (Mk := Finset.univ) (S := (m.access r).set) (f := f)
    (by rw [View.setOn_univ])) $$ H
  iintro H
  iapply Hk
  iexists (m.access r).write (Elt F) f w Finset.univ
  isplitr; · ipureintro; exact View.read_write_univ _ _
  iexact H

/-- A load of row `k` of blocks. -/
theorem ld_row (c k : Dev nD) {M : Memref sig .tc .vmem S2048x512 .f32} {off : Fin 2 → ℕ} {inb : ∀ a, off a + S512x512.size a ≤ S2048x512.size a} (hoff : off = ![512 * k.val, 0])
    (X : Vec F S512x512 .f32) {hl : M.view.LoadsAt (Rect.unit (s := S2048x512) off S512x512.size inb).toLoadRect}
    {K : Vec F S512x512 .f32 → Prog (TpuEff nD τ sig (Elt F) Λ₀ .tc) α} :
    rowO M c k X ⊢ iprop((rowO M c k X -∗ WP c (K X) Q)
      -∗ WP c (.op (.load M (Rect.unit (s := S2048x512) off S512x512.size inb).toLoadRect hl) K) Q) := by
  subst hoff
  exact ld_tile c (r := rowR k) (fun _ => rfl) fullShare X

/-- A store to row `k` of blocks. -/
theorem st_row (c k : Dev nD) {M : Memref sig .tc .vmem S2048x512 .f32} {off : Fin 2 → ℕ} {inb : ∀ a, off a + S512x512.size a ≤ S2048x512.size a} (hoff : off = ![512 * k.val, 0])
    {w : Vec F S512x512 .f32} (X Y : Vec F S512x512 .f32) (hw : w = Y) {hx} {hm}
    {K : PUnit → Prog (TpuEff nD τ sig (Elt F) Λ₀ .tc) α} :
    rowO M c k X ⊢ iprop((rowO M c k Y -∗ WP c (K ⟨⟩) Q)
      -∗ WP c (.op (.store M (Rect.unit (s := S2048x512) off S512x512.size inb) w Finset.univ hx hm) K) Q) := by
  subst hoff
  exact st_tile c (r := rowR k) (fun _ => rfl) X w Y hw

/-- A load of quarter `q` of row `k` of the partial-sum buffer. -/
theorem ld_q (c k : Dev nD) (q : Fin 4) {off : Fin 2 → ℕ} {inb : ∀ a, off a + S512x128.size a ≤ S2048x512.size a} (hoff : off = ![512 * k.val, 128 * q.val])
    (X : Vec F S512x128 .f32) {hl : hM.view.LoadsAt (Rect.unit (s := S2048x512) off S512x128.size inb).toLoadRect}
    {K : Vec F S512x128 .f32 → Prog (TpuEff nD τ sig (Elt F) Λ₀ .tc) α} :
    hq c k q X ⊢ iprop((hq c k q X -∗ WP c (K X) Q)
      -∗ WP c (.op (.load hM (Rect.unit (s := S2048x512) off S512x128.size inb).toLoadRect hl) K) Q) := by
  subst hoff
  exact ld_tile c (r := qR k q) (fun _ => rfl) fullShare X

/-- A store to quarter `q` of row `k` of the partial-sum buffer. -/
theorem st_q (c k : Dev nD) (q : Fin 4) {off : Fin 2 → ℕ} {inb : ∀ a, off a + S512x128.size a ≤ S2048x512.size a} (hoff : off = ![512 * k.val, 128 * q.val])
    {w : Vec F S512x128 .f32} (X Y : Vec F S512x128 .f32) (hw : w = Y) {hx} {hm}
    {K : PUnit → Prog (TpuEff nD τ sig (Elt F) Λ₀ .tc) α} :
    hq c k q X ⊢ iprop((hq c k q Y -∗ WP c (K ⟨⟩) Q)
      -∗ WP c (.op (.store hM (Rect.unit (s := S2048x512) off S512x128.size inb) w Finset.univ hx hm) K) Q) := by
  subst hoff
  exact st_tile c (r := qR k q) (fun _ => rfl) X w Y hw

/-- A load of the slot of copy `x`, with its leading axes of size one. -/
theorem ld_slot (c : Dev nD) (x : Cp) (q : PosShare TreeShare) {M : Memref sig .tc .vmem S2x3x2x512x128 .f32} (hM : M = commM x.1)
    {off : Fin 5 → ℕ} {inb : ∀ a, off a + S1x1x1x512x128.size a ≤ S2x3x2x512x128.size a} (hoff : off = ![x.2.2.2.val, x.2.1.val, x.2.2.1.val, 0, 0])
    (X : Vec F S512x128 .f32) {hl : M.view.LoadsAt (Rect.unit (s := S2x3x2x512x128) off S1x1x1x512x128.size inb).toLoadRect}
    {K : Vec F S1x1x1x512x128 .f32 → Prog (TpuEff nD τ sig (Elt F) Λ₀ .tc) α} :
    slotO x c q X ⊢ iprop((slotO x c q X -∗ WP c (K (unsq X)) Q)
      -∗ WP c (.op (.load M (Rect.unit (s := S2x3x2x512x128) off S1x1x1x512x128.size inb).toLoadRect hl) K) Q) := by
  subst hM hoff
  unfold slotO owns
  iintro ⟨%f, %hf, H⟩ Hk
  iapply (wp_load_rect 𝒱₀ (c : Thread nD τ) none Set.univ (m := commM x.1) (r := slotR x.2.1 x.2.2.1 x.2.2.2)
    (S := (slotM x).view.set) (f := f) (by rw [View.set_reshape])) $$ H
  iintro H
  rw [show ((commM x.1).access (slotR x.2.1 x.2.2.1 x.2.2.2)).read (Elt F) f = unsq X from by
    subst hf
    funext i
    unfold unsq
    show _ = ((commM x.1).access (slotR x.2.1 x.2.2.1 x.2.2.2)).read (Elt F) f (Shape.reshapeEquiv _ ((Shape.reshapeEquiv _).symm i))
    rw [Equiv.apply_symm_apply]]
  iapply Hk
  iexists f
  isplitr; · ipureintro; exact hf
  iexact H

/-- A load of a row of blocks of the first argument. -/
theorem ld_x (c k : Dev nD) {off : Fin 2 → ℕ} {inb : ∀ a, off a + S512x512.size a ≤ S2048x512.size a} (hoff : off = ![512 * k.val, 0]) (X : Vec F S2048x512 .f32)
    {hl : xM.view.LoadsAt (Rect.unit (s := S2048x512) off S512x512.size inb).toLoadRect}
    {K : Vec F S512x512 .f32 → Prog (TpuEff nD τ sig (Elt F) Λ₀ .tc) α} :
    (((c : Thread nD τ).loc cc0_stg0_0) ↦{fullShare} X : sProp 𝕄)
      ⊢ iprop(((((c : Thread nD τ).loc cc0_stg0_0) ↦{fullShare} X) -∗ WP c (K (rowOf X k)) Q)
      -∗ WP c (.op (.load xM (Rect.unit (s := S2048x512) off S512x512.size inb).toLoadRect hl) K) Q) := by
  subst hoff
  exact wp_load_rect 𝒱₀ (c : Thread nD τ) none Set.univ (m := xM) (r := rowR k) (S := Finset.univ) (f := X) (Finset.subset_univ _)

theorem hz : (![0, 0] : Fin 2 → Nat) = fun _ => 0 := funext fun a => by fin_cases a <;> rfl

/-- A load of the second argument. -/
theorem ld_w1 (c : Dev nD) {inb : ∀ a, (![0, 0] : Fin 2 → ℕ) a + S512x512.size a ≤ S512x512.size a} (X : Vec F S512x512 .f32)
    {hl : w1M.view.LoadsAt (Rect.unit (s := S512x512) ![0, 0] S512x512.size inb).toLoadRect}
    {K : Vec F S512x512 .f32 → Prog (TpuEff nD τ sig (Elt F) Λ₀ .tc) α} :
    (((c : Thread nD τ).loc cc0_stg1_0) ↦{fullShare} X : sProp 𝕄)
      ⊢ iprop(((((c : Thread nD τ).loc cc0_stg1_0) ↦{fullShare} X) -∗ WP c (K X) Q)
      -∗ WP c (.op (.load w1M (Rect.unit (s := S512x512) ![0, 0] S512x512.size inb).toLoadRect hl) K) Q) := by
  iintro H Hk
  iapply (wp_load 𝒱₀ (c : Thread nD τ) none Set.univ (m := w1M) (r := (Rect.unit (s := S512x512) ![0, 0] S512x512.size inb).toLoadRect) (hl := hl) (k := K)
    (S := Finset.univ) (q := fullShare) (f := X) (Finset.subset_univ _)) $$ H
  iintro H
  rw [show w1M.view.readAt (Elt F) (Rect.unit (s := S512x512) ![0, 0] S512x512.size inb).toLoadRect X = X from Memref.readAt_unit_zero (Elt F) cc0_stg1_0 hz _ X]
  iapply Hk
  iexact H

/-- A load of the third argument. -/
theorem ld_w2 (c : Dev nD) {inb : ∀ a, (![0, 0] : Fin 2 → ℕ) a + S512x512.size a ≤ S512x512.size a} (X : Vec F S512x512 .f32)
    {hl : w2M.view.LoadsAt (Rect.unit (s := S512x512) ![0, 0] S512x512.size inb).toLoadRect}
    {K : Vec F S512x512 .f32 → Prog (TpuEff nD τ sig (Elt F) Λ₀ .tc) α} :
    (((c : Thread nD τ).loc cc0_stg2_0) ↦{fullShare} X : sProp 𝕄)
      ⊢ iprop(((((c : Thread nD τ).loc cc0_stg2_0) ↦{fullShare} X) -∗ WP c (K X) Q)
      -∗ WP c (.op (.load w2M (Rect.unit (s := S512x512) ![0, 0] S512x512.size inb).toLoadRect hl) K) Q) := by
  iintro H Hk
  iapply (wp_load 𝒱₀ (c : Thread nD τ) none Set.univ (m := w2M) (r := (Rect.unit (s := S512x512) ![0, 0] S512x512.size inb).toLoadRect) (hl := hl) (k := K)
    (S := Finset.univ) (q := fullShare) (f := X) (Finset.subset_univ _)) $$ H
  iintro H
  rw [show w2M.view.readAt (Elt F) (Rect.unit (s := S512x512) ![0, 0] S512x512.size inb).toLoadRect X = X from Memref.readAt_unit_zero (Elt F) cc0_stg2_0 hz _ X]
  iapply Hk
  iexact H

end Steps

/-! ## Cutting and joining tiles -/

theorem quart_disj (q q' : Fin 4) (h : q ≠ q') : Disjoint (quartR q).set (quartR q').set :=
  Rect.unit_disjoint 1 (by revert q q'; decide)

theorem quart_cov : (Finset.univ : Finset (Fin 4)).biUnion (fun q => (quartR q).set) = Finset.univ := by
  ext i
  simp only [Finset.mem_biUnion, Finset.mem_univ, true_and, iff_true]
  have h0 : (i 0 : ℕ) < 512 := (i 0).isLt
  have h1 : (i 1 : ℕ) < 512 := (i 1).isLt
  refine ⟨⟨(i 1 : ℕ) / 128, by omega⟩, Rect.mem_set_unit.mpr fun a => ?_⟩
  fin_cases a
  · exact ⟨Nat.zero_le _, by show (i 0 : ℕ) < 0 + 512; omega⟩
  · exact ⟨by show 128 * ((i 1 : ℕ) / 128) ≤ (i 1 : ℕ); omega, by show (i 1 : ℕ) < 128 * ((i 1 : ℕ) / 128) + 128; omega⟩

theorem rows_disj (k k' : Dev nD) (h : k ≠ k') : Disjoint (rowR k).set (rowR k').set :=
  Rect.unit_disjoint 0 (by revert k k'; decide)

theorem rows_cov : (Finset.univ : Finset (Dev nD)).biUnion (fun k => (rowR k).set) = Finset.univ := by
  ext i
  simp only [Finset.mem_biUnion, Finset.mem_univ, true_and, iff_true]
  have h0 : (i 0 : ℕ) < 2048 := (i 0).isLt
  have h1 : (i 1 : ℕ) < 512 := (i 1).isLt
  refine ⟨⟨(i 0 : ℕ) / 512, by show _ < 4; omega⟩, Rect.mem_set_unit.mpr fun a => ?_⟩
  fin_cases a
  · exact ⟨by show 512 * ((i 0 : ℕ) / 512) ≤ (i 0 : ℕ); omega, by show (i 0 : ℕ) < 512 * ((i 0 : ℕ) / 512) + 512; omega⟩
  · exact ⟨Nat.zero_le _, by show (i 1 : ℕ) < 0 + 512; omega⟩

theorem slots_disj (y y' : Fin 3 × Fin 2 × Fin 2) (h : y ≠ y') : Disjoint (slotR y.1 y.2.1 y.2.2).set (slotR y'.1 y'.2.1 y'.2.2).set := by
  obtain ⟨s, j, d⟩ := y
  obtain ⟨s', j', d'⟩ := y'
  by_cases hd : d = d'
  · by_cases hs : s = s'
    · refine Rect.unit_disjoint 2 ?_
      subst hd hs
      have hj : j ≠ j' := fun e => h (by rw [e])
      show j.val + 1 ≤ j'.val ∨ j'.val + 1 ≤ j.val
      omega
    · refine Rect.unit_disjoint 1 ?_
      show s.val + 1 ≤ s'.val ∨ s'.val + 1 ≤ s.val
      omega
  · refine Rect.unit_disjoint 0 ?_
    show d.val + 1 ≤ d'.val ∨ d'.val + 1 ≤ d.val
    omega

theorem slots_cov : (Finset.univ : Finset (Fin 3 × Fin 2 × Fin 2)).biUnion (fun y => (slotR y.1 y.2.1 y.2.2).set) = Finset.univ := by
  ext i
  simp only [Finset.mem_biUnion, Finset.mem_univ, true_and, iff_true]
  have h0 : (i 0 : ℕ) < 2 := (i 0).isLt
  have h1 : (i 1 : ℕ) < 3 := (i 1).isLt
  have h2 : (i 2 : ℕ) < 2 := (i 2).isLt
  have h3 : (i 3 : ℕ) < 512 := (i 3).isLt
  have h4 : (i 4 : ℕ) < 128 := (i 4).isLt
  refine ⟨(⟨i 1, h1⟩, ⟨i 2, h2⟩, ⟨i 0, h0⟩), Rect.mem_set_unit.mpr fun a => ?_⟩
  fin_cases a
  · exact ⟨le_refl _, by show (i 0 : ℕ) < (i 0 : ℕ) + 1; omega⟩
  · exact ⟨le_refl _, by show (i 1 : ℕ) < (i 1 : ℕ) + 1; omega⟩
  · exact ⟨le_refl _, by show (i 2 : ℕ) < (i 2 : ℕ) + 1; omega⟩
  · exact ⟨Nat.zero_le _, by show (i 3 : ℕ) < 0 + 512; omega⟩
  · exact ⟨Nat.zero_le _, by show (i 4 : ℕ) < 0 + 128; omega⟩

omit [FloatOps F] in
/-- A quarter of a row, seen within the row, is the quarter seen within the buffer. -/
theorem hq_within (c k : Dev nD) (q : Fin 4) (X : Vec F S512x128 .f32) :
    (owns (c : Thread nD τ) ((hM.slice (rowR k) (fun _ => rfl)).slice (quartR q) (fun _ => rfl)) fullShare X : sProp 𝕄) = hq c k q X := by
  have he : (((hM.slice (rowR k) (fun _ => rfl)).slice (quartR q) (fun _ => rfl)).view.emb) = (hM.slice (qR k q) (fun _ => rfl)).view.emb := by
    ext i a
    show ((rowR k).emb ((quartR q).emb i) a : ℕ) = ((qR k q).emb i a : ℕ)
    rw [Rect.emb_apply, Rect.emb_apply, Rect.emb_apply]
    fin_cases a
    · show 512 * k.val + 1 * (0 + 1 * (i 0 : ℕ)) = 512 * k.val + 1 * (i 0 : ℕ); omega
    · show 0 + 1 * (128 * q.val + 1 * (i 1 : ℕ)) = 128 * q.val + 1 * (i 1 : ℕ); omega
  have hs : ((hM.slice (rowR k) (fun _ => rfl)).slice (quartR q) (fun _ => rfl)).view.set = (hM.slice (qR k q) (fun _ => rfl)).view.set :=
    congrArg (Finset.univ.map) he
  have hr : ∀ f, ((hM.slice (rowR k) (fun _ => rfl)).slice (quartR q) (fun _ => rfl)).view.read (Elt F) f = (hM.slice (qR k q) (fun _ => rfl)).view.read (Elt F) f :=
    fun f => funext fun i => congrArg f (DFunLike.congr_fun he i)
  unfold hq owns
  simp only [hr, hs]

/-- The block whose quarters are given. -/
def joinQ (Z : Fin 4 → Vec F S512x128 .f32) : Vec F S512x512 .f32 := Rect.glue quartR quart_cov Z
omit [FloatOps F] in
theorem quart_joinQ (Z : Fin 4 → Vec F S512x128 .f32) (q : Fin 4) : quart (joinQ Z) q = Z q :=
  funext fun j => Rect.glue_emb quartR quart_cov quart_disj Z q j

/-- The 2048 × 512 array whose rows of blocks are given. -/
def joinR (Z : Dev nD → Vec F S512x512 .f32) : Vec F S2048x512 .f32 := Rect.glue rowR rows_cov Z
omit [FloatOps F] in
theorem rowOf_joinR (Z : Dev nD → Vec F S512x512 .f32) (k : Dev nD) : rowOf (joinR Z) k = Z k :=
  funext fun j => Rect.glue_emb rowR rows_cov rows_disj Z k j

/-- The four quarters of row `k` of the partial-sum buffer. -/
def quarts (c k : Dev nD) (Z : Fin 4 → Vec F S512x128 .f32) : sProp 𝕄 :=
  iprop(hq c k (qd 0 0) (Z (qd 0 0)) ∗ hq c k (qd 1 0) (Z (qd 1 0)) ∗ hq c k (qd 0 1) (Z (qd 0 1)) ∗ hq c k (qd 1 1) (Z (qd 1 1)))

omit [FloatOps F] in
/-- A row of the partial-sum buffer is its four quarters, -/
theorem row_split (c k : Dev nD) (X : Vec F S512x512 .f32) :
    (rowO hM c k X : sProp 𝕄) ⊢ quarts c k (quart X) := by
  refine (owns_rects (c : Thread nD τ) (hM.slice (rowR k) (fun _ => rfl)) fullShare quartR (fun _ _ => rfl) quart_disj quart_cov X).trans ?_
  rw [bigSep_univ_eq_bigSepL [0, 1, 2, 3] (by decide) (by decide), bigSepL_cons_cons, bigSepL_cons_cons, bigSepL_cons_cons, bigSepL_singleton,
    hq_within, hq_within, hq_within, hq_within]
  exact .rfl

omit [FloatOps F] in
/-- and back. -/
theorem row_join [∀ e, Nonempty (Elt F e)] (c k : Dev nD) (Z : Fin 4 → Vec F S512x128 .f32) :
    quarts c k Z ⊢ (rowO hM c k (joinQ Z) : sProp 𝕄) := by
  refine BIBase.Entails.trans ?_ (owns_of_rects (c : Thread nD τ) (hM.slice (rowR k) (fun _ => rfl)) fullShare quartR (fun _ _ => rfl) quart_disj quart_cov (joinQ Z))
  rw [bigSep_univ_eq_bigSepL [0, 1, 2, 3] (by decide) (by decide), bigSepL_cons_cons, bigSepL_cons_cons, bigSepL_cons_cons, bigSepL_singleton,
    hq_within, hq_within, hq_within, hq_within]
  show _ ⊢ quarts c k (quart (joinQ Z))
  rw [show quart (joinQ Z) = Z from funext fun q => quart_joinQ Z q]

theorem devs_eq (c : Dev nD) : (Finset.univ : Finset (Dev nD)) = [c, row 1 c, row 2 c, row 3 c].toFinset := by revert c; decide
theorem devs_nodup (c : Dev nD) : [c, row 1 c, row 2 c, row 3 c].Nodup := by revert c; decide

/-- The four rows of a buffer. -/
def rows4 (M : Memref sig .tc .vmem S2048x512 .f32) (c : Dev nD) (Z : Dev nD → Vec F S512x512 .f32) : sProp 𝕄 :=
  iprop(rowO M c c (Z c) ∗ rowO M c (row 1 c) (Z (row 1 c)) ∗ rowO M c (row 2 c) (Z (row 2 c)) ∗ rowO M c (row 3 c) (Z (row 3 c)))

omit [FloatOps F] in
/-- A 2048 × 512 buffer is its four rows, -/
theorem rows_split (M : Memref sig .tc .vmem S2048x512 .f32) (c : Dev nD) (X : Vec F S2048x512 .f32) :
    (owns (c : Thread nD τ) M fullShare X : sProp 𝕄) ⊢ rows4 M c (rowOf X) := by
  refine (owns_rects (c : Thread nD τ) M fullShare rowR (fun _ _ => rfl) rows_disj rows_cov X).trans ?_
  rw [bigSep_univ_eq_bigSepL [c, row 1 c, row 2 c, row 3 c] (devs_eq c) (devs_nodup c), bigSepL_cons_cons, bigSepL_cons_cons, bigSepL_cons_cons, bigSepL_singleton]
  exact .rfl

omit [FloatOps F] in
/-- and back. -/
theorem rows_join [∀ e, Nonempty (Elt F e)] (M : Memref sig .tc .vmem S2048x512 .f32) (c : Dev nD) (Z : Dev nD → Vec F S512x512 .f32) :
    rows4 M c Z ⊢ (owns (c : Thread nD τ) M fullShare (joinR Z) : sProp 𝕄) := by
  refine BIBase.Entails.trans ?_ (owns_of_rects (c : Thread nD τ) M fullShare rowR (fun _ _ => rfl) rows_disj rows_cov (joinR Z))
  rw [bigSep_univ_eq_bigSepL [c, row 1 c, row 2 c, row 3 c] (devs_eq c) (devs_nodup c), bigSepL_cons_cons, bigSepL_cons_cons, bigSepL_cons_cons, bigSepL_singleton]
  show _ ⊢ rows4 M c (rowOf (joinR Z))
  rw [show rowOf (joinR Z) = Z from funext fun k => rowOf_joinR Z k]

/-- The reindexing a slot's leading axes of size one ask for. -/
abbrev sqE : S512x128.Idx ≃ S1x1x1x512x128.Idx := Shape.reshapeEquiv squeezes_S1x1x1x512x128_S512x128.numel_eq

omit [FloatOps F] in
theorem slot_of_slice (x : Cp) (c : Dev nD) (q : PosShare TreeShare) (X : Vec F S1x1x1x512x128 .f32) :
    (owns (c : Thread nD τ) ((commM x.1).slice (slotR x.2.1 x.2.2.1 x.2.2.2) (fun _ => rfl)) q X : sProp 𝕄) ⊢ slotO x c q (fun i => X (sqE i)) := by
  unfold slotO owns
  iintro ⟨%f, %hf, H⟩
  iexists f
  isplitr
  · ipureintro; subst hf; rfl
  · rw [View.set_reshape]; iexact H

omit [FloatOps F] in
theorem slice_of_slot (x : Cp) (c : Dev nD) (q : PosShare TreeShare) (X : Vec F S512x128 .f32) :
    (slotO x c q X : sProp 𝕄) ⊢ owns (c : Thread nD τ) ((commM x.1).slice (slotR x.2.1 x.2.2.1 x.2.2.2) (fun _ => rfl)) q (unsq X) := by
  unfold slotO owns
  iintro ⟨%f, %hf, H⟩
  iexists f
  isplitr
  · ipureintro
    subst hf
    funext i
    unfold unsq
    show _ = ((commM x.1).slice (slotR x.2.1 x.2.2.1 x.2.2.2) (fun _ => rfl)).view.read (Elt F) f (Shape.reshapeEquiv _ ((Shape.reshapeEquiv _).symm i))
    rw [Equiv.apply_symm_apply]
  · rw [View.set_reshape]; iexact H

omit [FloatOps F] in
/-- A landing buffer is its twelve slots, -/
theorem slots_split (p : Fin 2) (c : Dev nD) :
    (iprop(∃ X, owns (c : Thread nD τ) (commM p) fullShare X) : sProp 𝕄) ⊢ bigSep Finset.univ fun y : Fin 3 × Fin 2 × Fin 2 => slotE (p, y) c := by
  iintro ⟨%X, H⟩
  iapply ((owns_rects (c : Thread nD τ) (commM p) fullShare (fun y : Fin 3 × Fin 2 × Fin 2 => slotR y.1 y.2.1 y.2.2) (fun _ _ => rfl) slots_disj slots_cov X).trans
    (bigSep_mono fun y _ => (slot_of_slice (p, y) c fullShare _).trans (by unfold slotE; iintro H; iexists _; iexact H))) $$ H

omit [FloatOps F] in
/-- and back. -/
theorem slots_join [∀ e, Nonempty (Elt F e)] (p : Fin 2) (c : Dev nD) :
    (bigSep Finset.univ fun y : Fin 3 × Fin 2 × Fin 2 => slotE (p, y) c) ⊢ (iprop(∃ X, owns (c : Thread nD τ) (commM p) fullShare X) : sProp 𝕄) := by
  have h (y : Fin 3 × Fin 2 × Fin 2) : (slotE (p, y) c : sProp 𝕄)
      ⊢ ownsSat (c : Thread nD τ) ((commM p).slice (slotR y.1 y.2.1 y.2.2) (fun _ => rfl)) fullShare (fun _ => True) := by
    unfold slotE
    iintro ⟨%X, H⟩
    iapply (ownsSat_intro (c : Thread nD τ) _ fullShare (X := unsq X) trivial)
    iapply (slice_of_slot (p, y) c fullShare X) $$ H
  refine (bigSep_mono fun y _ => h y).trans ((ownsSat_of_rects (c : Thread nD τ) (commM p) fullShare (r := fun y : Fin 3 × Fin 2 × Fin 2 => slotR y.1 y.2.1 y.2.2) (fun _ _ => rfl) slots_disj slots_cov (fun _ _ => True)).trans
      (ownsSat_any _ _ _))

/-! ## Payloads -/

/-- A slot's value with its leading axes dropped again. -/
theorem drop_unsq (X : Vec F S512x128 .f32) : shapeCast S512x128 (unsq X) shapeCasts_S1x1x1x512x128_S512x128 = X := by
  funext i
  show X ((Shape.reshapeEquiv _).symm (Shape.reshapeEquiv _ i)) = X i
  rw [Equiv.symm_apply_apply]

theorem pass_unsq (X : Vec F S512x128 .f32) : k0_pay21 (unsq X) = X := by
  show shapeCast S512x128 (shapeCast S512x128 (unsq X) shapeCasts_S1x1x1x512x128_S512x128) shapeCasts_S512x128_S512x128 = X
  rw [drop_unsq]
  exact shapeCast_self X _

theorem part_eq (X Y : Vec F S512x512 .f32) : k0_pay4 (k0_pay3 X Y) = k0_pay2 X Y := rfl

end Cert.KernelIdealProof

end
-- ==== Proof.KernelIdealSteps.lean ====
/-
# The protocol's steps

One rule per kind of step — the two signals and the wait of the entry barrier, a copy started, a wait on a copy's send
and on its receive semaphore — each at a copy `x` of the list, on any device.
-/
module

public import proofs.«01_k».proof.Proof.KernelIdealTiles

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-- Device `c` owes the copies of the list. -/
def owesW (c : Dev nD) (l : List Cp) : sProp 𝕄 := iprop(∃ W, owes (c : Thread nD τ) (owe c l) W)
/-- What device `c` holds to start copy `x`: the duties of its own send cell and of the receive cell downstream, and its
    place at the send cell. -/
def Tk (x : Cp) (c : Dev nD) : sProp 𝕄 :=
  iprop(dutyTok ER (sendCell x c) 0 (0 : Fin 2) ∗ dutyTok ER (recvCell x (bk (dirOf x) 3 c)) 0 (0 : Fin 2) ∗ atPos ER (sendCell x c) 0 (∅ : Finset (Fin 2)) 0)
/-- What device `c` holds to wait for the copy `x` that comes in. -/
def Rx (x : Cp) (c : Dev nD) : sProp 𝕄 := iprop(cred (tallyAt (recvCell x c) () N) ∗ atPos ER (recvCell x c) 0 (∅ : Finset (Fin 2)) 0)
/-- What device `c` holds while its copy `x` is in flight. -/
def Fl (x : Cp) (c : Dev nD) : sProp 𝕄 := iprop(cred (tallyAt (sendCell x c) () N) ∗ atPos ER (sendCell x c) 0 (∅ : Finset (Fin 2)) 0)

omit [FloatOps F] in
/-- A copy lands: the slot holds what was read at the source. -/
theorem land_slot (x : Cp) (n : Dev nD) (fd : Buf (Elt F) ((slotM x).view.loc (n : Thread nD τ))) (X : Vec F S512x128 .f32) :
    ((slotM x).view.loc (n : Thread nD τ) ↦[(slotM x).view.set]{fullShare} ((slotM x).view.write (Elt F) fd X Finset.univ) : sProp 𝕄)
      ⊢ slotO x n fullShare X := by
  unfold slotO owns
  iintro H
  iexists ((slotM x).view.write (Elt F) fd X Finset.univ)
  isplitr
  · ipureintro; exact View.read_write_univ _ _
  iexact H

/-- Every slot's credit is the same. -/
theorem slot_credit (x : Cp) : (slotM x).view.dmaCredit = N := by
  obtain ⟨p, s, j, d⟩ := x
  fin_cases p <;> rfl
theorem slot_amount (x : Cp) (b : Fin 2) : (slotM x).view.amount (.dma (dsem b x)) = N := slot_credit x

section Steps

variable {α : Type} {Q : α → sProp (MT nD τ sig Unit (Elt F) ℕ UU ℕ)}

/-- A copy started: its source lent, the slot downstream given, the receive credit no longer owed. -/
theorem send_step (x : Cp) (c n : Dev nD) (hn : n = bk (dirOf x) 3 c) {sp : CoreSpace} {src : Memref sig .tc sp S512x128 .f32} (q : PosShare TreeShare)
    (X : Vec F S512x128 .f32) (hX : X = V m ρ (stepOf x) (jOf x) (dirOf x) c) (hpay : (owns (c : Thread nD τ) src q X : sProp 𝕄) ⊢ sendPay m ρ x c)
    {hsc : (slotM x).view.ref.isScScratch = false}
    {hsrc : src.view.WordExact} {hdst : (slotM x).view.WordExact}
    {hsem : DmaTarget.Typed sp (.dma (dsem 1 x)) (.remote (Dev.tc n : Thread nD τ) (slotM x) (.dma (dsem 0 x)) hsc)}
    {k : PUnit → Prog (TpuEff nD τ sig (Elt F) Λ₀ .tc) α} (l : List Cp) :
    env m ρ K ⊢ iprop(owns (c : Thread nD τ) src q X -∗ slotE x (bk (dirOf x) 3 c) -∗ Tk x c -∗ owesW c (x :: l) -∗ (Fl x c -∗ owesW c l -∗ WP c (k ⟨⟩) Q)
      -∗ WP c (.op (.enqueueDma src (.remote (Dev.tc n : Thread nD τ) (slotM x) (.dma (dsem 0 x)) hsc) (.dma (dsem 1 x)) hsrc hdst hsem) k) Q) := by
  subst hn
  unfold slotE Tk owesW Fl
  iintro #He Hs ⟨%Y, Hd⟩ ⟨HtS, HtR, HatS⟩ ⟨%W, HO⟩ Hk
  ihave Hs' := (show (owns (c : Thread nD τ) src q X : sProp 𝕄) ⊢ iprop(∃ g, ⌜src.view.read (Elt F) g = X⌝ ∗ src.view.loc (c : Thread nD τ) ↦[src.view.set]{q} g) from .rfl) $$ Hs
  icases Hs' with ⟨%fs, %hfs, Hs⟩
  unfold slotO
  ihave Hd' := (show (owns ((bk (dirOf x) 3 c : Dev nD) : Thread nD τ) (slotM x) fullShare Y : sProp 𝕄) ⊢ iprop(∃ g, ⌜(slotM x).view.read (Elt F) g = Y⌝ ∗ (slotM x).view.loc ((bk (dirOf x) 3 c : Dev nD) : Thread nD τ) ↦[(slotM x).view.set]{fullShare} g) from .rfl) $$ Hd
  icases Hd' with ⟨%fd, -, Hd⟩
  ihave #HI1 := (env_inv m ρ K (c, some (0, x))) $$ He
  ihave #HI2 := (env_inv m ρ K (bk (dirOf x) 3 c, some (1, x))) $$ He
  ihave #HR1 := (env_reached m ρ K (c, some (0, x))) $$ He
  ihave #HR2 := (env_reached m ρ K (bk (dirOf x) 3 c, some (1, x))) $$ He
  iapply (Rounds.wp_send_pointsTo 𝒱₀ ER (ringRd m ρ) (c : Thread nD τ) none (κ₁ := K (c, some (0, x))) (κ₂ := K (bk (dirOf x) 3 c, some (1, x)))
    (r₁ := 0) (r₂ := 0) (d₁ := (0 : Fin 2)) (d₂ := (0 : Fin 2)) (fs := fs) (fd := fd) (q := q)
    (by rw [duties_dma]; exact Finset.mem_singleton_self _) (by rw [duties_dma]; exact Finset.mem_singleton_self _)
    () () N (slot_amount x 1) (amount_dma m ρ c 0 x 0) (amount_dma m ρ (bk (dirOf x) 3 c) 1 x 0) (owe c l) rfl (W := W)
    (by rw [payload_send]; refine BIBase.Entails.trans ?_ hpay; unfold owns; iintro H; iexists fs; isplitr; · ipureintro; exact hfs
        iexact H)
    (by rw [payload_recv, hfs]; unfold recvPay; rw [bk_one_three, ← hX]; exact land_slot x _ fd X)) $$ [Hs Hd HO HtS HtR]
  · isplitr; · iexact HI1
    isplitr; · iexact HI2
    isplitl [Hs]; · iexact Hs
    isplitl [Hd]; · iexact Hd
    isplitl [HO]; · iexact HO
    isplitl [HtS]; · iexact HtS
    isplitr; · iexact HR1
    isplitl [HtR]; · iexact HtR
    iexact HR2
  iintro ⟨Hc, HO⟩
  iapply Hk $$ [Hc HatS] [HO]
  · isplitl [Hc]; · iexact Hc
    iexact HatS
  iexists W; iexact HO

/-- The wait on a copy's send semaphore: the source comes back, and the semaphore is at zero for good. -/
theorem wait_send_step (x : Cp) (c : Dev nD) (P : sProp 𝕄) (hP : sendPay m ρ x c = P) {sp sp' : CoreSpace} {s : Shape} {e : EltTy} {src : Memref sig .tc sp s e} {dst : Memref sig .tc sp' S512x128 .f32}
    (hN : dst.view.dmaCredit = N) {h1 : src.view.WordExact} {h2 : dst.view.WordExact}
    {k : PUnit → Prog (TpuEff nD τ sig (Elt F) Λ₀ .tc) α} (l : List Cp) :
    env m ρ K ⊢ iprop(Fl x c -∗ owesW c l -∗ (semVal (sendCell x c) 0 -∗ P -∗ owesW c l -∗ WP c (k ⟨⟩) Q)
      -∗ WP c (.op (.waitDma2 (dsem 0 x) src dst h1 h2) k) Q) := by
  subst hP
  unfold owesW Fl
  iintro #He ⟨Hc, Hat⟩ ⟨%W, HO⟩ Hk
  ihave #HI := (env_inv m ρ K (c, some (0, x))) $$ He
  ihave #Hlev := (env_lev m ρ K) $$ He
  iapply (Rounds.wp_wait_rest_token 𝒱₀ ER (ringRd m ρ) (c : Thread nD τ) none (κ := K (c, some (0, x)))
      (wpE_waitDma2_eq 𝒱₀ (c : Thread nD τ) none Set.univ) (Set.mem_univ _) () (O := owe c l) (W := W) (R := 0) (m := 0) (T := ∅)
      (by rw [Nat.zero_add, hN]; exact (expect_dma m ρ c 0 x).symm)) $$ [Hc HO Hat]
  · isplitr; · iexact HI
    isplitl [Hc]; · rw [hN]; iexact Hc
    isplitl [HO]; · iexact HO
    isplitr
    · iapply (mayWait_of c (.dma (dsem 0 x)) l 0 (le_of_eq (lv_send x c ())) (fun y _ => by omega)); iexact Hlev
    iexact Hat
  iintro ⟨HO, Hat, -, Hpay⟩
  ihave Hp := (Entails.of_eq (rest_send m ρ c x)) $$ Hpay
  imod (Rounds.cell_close ER (ringRd m ρ) (Set.mem_univ (K (c, some (0, x)))) (fun h => h) (R := 0 + 1) (duties_later m ρ (sendCell x c))) $$ [Hat] with Hz
  · isplitr; · iexact HI
    iexact Hat
  iapply Hk $$ Hz Hp [HO]
  iexists _; iexact HO

/-- The wait on a copy's receive semaphore: the slot comes, holding what the upstream device sent. -/
theorem wait_recv_step (x : Cp) (c : Dev nD) (X : Vec F S512x128 .f32) (hX : V m ρ (stepOf x) (jOf x) (dirOf x) (bk (dirOf x) 1 c) = X)
    {sp sp' : CoreSpace} {s : Shape} {e : EltTy} {src : Memref sig .tc sp s e} {dst : Memref sig .tc sp' S512x128 .f32}
    (hN : dst.view.dmaCredit = N) {h1 : src.view.WordExact} {h2 : dst.view.WordExact}
    {k : PUnit → Prog (TpuEff nD τ sig (Elt F) Λ₀ .tc) α} (l : List Cp) (hl : ∀ y ∈ l, 2 + stepOf x < 2 + stepOf y) :
    env m ρ K ⊢ iprop(Rx x c -∗ owesW c l -∗ (semVal (recvCell x c) 0 -∗ slotO x c fullShare X -∗ owesW c l -∗ WP c (k ⟨⟩) Q)
      -∗ WP c (.op (.waitDma2 (dsem 1 x) src dst h1 h2) k) Q) := by
  subst hX
  unfold owesW Rx
  iintro #He ⟨Hc, Hat⟩ ⟨%W, HO⟩ Hk
  ihave #HI := (env_inv m ρ K (c, some (1, x))) $$ He
  ihave #Hlev := (env_lev m ρ K) $$ He
  iapply (Rounds.wp_wait_rest_token 𝒱₀ ER (ringRd m ρ) (c : Thread nD τ) none (κ := K (c, some (1, x)))
      (wpE_waitDma2_eq 𝒱₀ (c : Thread nD τ) none Set.univ) (Set.mem_univ _) () (O := owe c l) (W := W) (R := 0) (m := 0) (T := ∅)
      (by rw [Nat.zero_add, hN]; exact (expect_dma m ρ c 1 x).symm)) $$ [Hc HO Hat]
  · isplitr; · iexact HI
    isplitl [Hc]; · rw [hN]; iexact Hc
    isplitl [HO]; · iexact HO
    isplitr
    · iapply (mayWait_of c (.dma (dsem 1 x)) l (2 + stepOf x) (le_of_eq (lv_recv x c ())) hl); iexact Hlev
    iexact Hat
  iintro ⟨HO, Hat, -, Hpay⟩
  ihave Hp := (Entails.of_eq (rest_recv m ρ c x)) $$ Hpay
  imod (Rounds.cell_close ER (ringRd m ρ) (Set.mem_univ (K (c, some (1, x)))) (fun h => h) (R := 0 + 1) (duties_later m ρ (recvCell x c))) $$ [Hat] with Hz
  · isplitr; · iexact HI
    iexact Hat
  unfold recvPay
  iapply Hk $$ Hz Hp [HO]
  iexists _; iexact HO

end Steps

end Cert.KernelIdealProof

end
-- ==== Proof.KernelIdealOffsets.lean ====
/-
# Where the program's windows and copies go

The program computes row offsets and device numbers as words; here each is stated as the row (`row n c`) and quarter it
is, or the device it is.
-/
module

public import proofs.«01_k».proof.Proof.KernelIdealCommon

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem off1 (c : Dev nD) : k0_off1 c = ![512 * c.val, 0] := by revert c; decide +kernel
theorem off2 (c : Dev nD) : k0_off2 c = ![512 * c.val, 128 * (qd 0 0).val] := by revert c; decide +kernel
theorem off3 (c : Dev nD) : k0_off3 c = ![512 * c.val, 128 * (qd 0 1).val] := by revert c; decide +kernel
theorem off4 (c : Dev nD) : k0_off4 c = ![512 * c.val, 128 * (qd 1 0).val] := by revert c; decide +kernel
theorem off5 (c : Dev nD) : k0_off5 c = ![512 * c.val, 128 * (qd 1 1).val] := by revert c; decide +kernel
theorem off6_1 (c : Dev nD) : k0_off6 c 1#32 = ![512 * (row 1 c).val, 0] := by revert c; decide +kernel
theorem off6_2 (c : Dev nD) : k0_off6 c 2#32 = ![512 * (row 2 c).val, 0] := by revert c; decide +kernel
theorem off7 (c : Dev nD) : k0_off7 c = ![512 * (row 3 c).val, 0] := by revert c; decide +kernel
theorem off8_0 (c : Dev nD) : k0_off8 c 0#32 = ![512 * c.val, 128 * (qd 0 0).val] := by revert c; decide +kernel
theorem off8_1 (c : Dev nD) : k0_off8 c 1#32 = ![512 * (row 3 c).val, 128 * (qd 0 0).val] := by revert c; decide +kernel
theorem off8_2 (c : Dev nD) : k0_off8 c 2#32 = ![512 * (row 2 c).val, 128 * (qd 0 0).val] := by revert c; decide +kernel
theorem off9_1 (c : Dev nD) : k0_off9 c 1#32 = ![512 * (row 3 c).val, 128 * (qd 0 0).val] := by revert c; decide +kernel
theorem off9_2 (c : Dev nD) : k0_off9 c 2#32 = ![512 * (row 2 c).val, 128 * (qd 0 0).val] := by revert c; decide +kernel
theorem off10_0 (c : Dev nD) : k0_off10 c 0#32 = ![512 * c.val, 128 * (qd 0 1).val] := by revert c; decide +kernel
theorem off10_1 (c : Dev nD) : k0_off10 c 1#32 = ![512 * (row 1 c).val, 128 * (qd 0 1).val] := by revert c; decide +kernel
theorem off10_2 (c : Dev nD) : k0_off10 c 2#32 = ![512 * (row 2 c).val, 128 * (qd 0 1).val] := by revert c; decide +kernel
theorem off11_1 (c : Dev nD) : k0_off11 c 1#32 = ![512 * (row 1 c).val, 128 * (qd 0 1).val] := by revert c; decide +kernel
theorem off11_2 (c : Dev nD) : k0_off11 c 2#32 = ![512 * (row 2 c).val, 128 * (qd 0 1).val] := by revert c; decide +kernel
theorem off12_0 (c : Dev nD) : k0_off12 c 0#32 = ![512 * c.val, 128 * (qd 1 0).val] := by revert c; decide +kernel
theorem off12_1 (c : Dev nD) : k0_off12 c 1#32 = ![512 * (row 3 c).val, 128 * (qd 1 0).val] := by revert c; decide +kernel
theorem off12_2 (c : Dev nD) : k0_off12 c 2#32 = ![512 * (row 2 c).val, 128 * (qd 1 0).val] := by revert c; decide +kernel
theorem off13_1 (c : Dev nD) : k0_off13 c 1#32 = ![512 * (row 3 c).val, 128 * (qd 1 0).val] := by revert c; decide +kernel
theorem off13_2 (c : Dev nD) : k0_off13 c 2#32 = ![512 * (row 2 c).val, 128 * (qd 1 0).val] := by revert c; decide +kernel
theorem off14_0 (c : Dev nD) : k0_off14 c 0#32 = ![512 * c.val, 128 * (qd 1 1).val] := by revert c; decide +kernel
theorem off14_1 (c : Dev nD) : k0_off14 c 1#32 = ![512 * (row 1 c).val, 128 * (qd 1 1).val] := by revert c; decide +kernel
theorem off14_2 (c : Dev nD) : k0_off14 c 2#32 = ![512 * (row 2 c).val, 128 * (qd 1 1).val] := by revert c; decide +kernel
theorem off15_1 (c : Dev nD) : k0_off15 c 1#32 = ![512 * (row 1 c).val, 128 * (qd 1 1).val] := by revert c; decide +kernel
theorem off15_2 (c : Dev nD) : k0_off15 c 2#32 = ![512 * (row 2 c).val, 128 * (qd 1 1).val] := by revert c; decide +kernel
theorem off16 (c : Dev nD) : k0_off16 c = ![512 * (row 1 c).val, 128 * (qd 0 0).val] := by revert c; decide +kernel
theorem off17 (c : Dev nD) : k0_off17 c = ![512 * (row 1 c).val, 128 * (qd 0 0).val] := by revert c; decide +kernel
theorem off18 (c : Dev nD) : k0_off18 c = ![512 * (row 3 c).val, 128 * (qd 0 1).val] := by revert c; decide +kernel
theorem off19 (c : Dev nD) : k0_off19 c = ![512 * (row 3 c).val, 128 * (qd 0 1).val] := by revert c; decide +kernel
theorem off20 (c : Dev nD) : k0_off20 c = ![512 * (row 1 c).val, 128 * (qd 1 0).val] := by revert c; decide +kernel
theorem off21 (c : Dev nD) : k0_off21 c = ![512 * (row 1 c).val, 128 * (qd 1 0).val] := by revert c; decide +kernel
theorem off22 (c : Dev nD) : k0_off22 c = ![512 * (row 3 c).val, 128 * (qd 1 1).val] := by revert c; decide +kernel
theorem off23 (c : Dev nD) : k0_off23 c = ![512 * (row 3 c).val, 128 * (qd 1 1).val] := by revert c; decide +kernel

theorem dev1 (c : Dev nD) : (⟨k0_dev1 c, k0_dev1_lt c⟩ : Dev nD) = row 3 c := by revert c; decide +kernel
theorem dev2 (c : Dev nD) : (⟨k0_dev2 c, k0_dev2_lt c⟩ : Dev nD) = row 1 c := by revert c; decide +kernel
theorem dev3 (c : Dev nD) : (⟨k0_dev3 c, k0_dev3_lt c⟩ : Dev nD) = bk 0 3 c := by revert c; decide +kernel
theorem dev4 (c : Dev nD) : (⟨k0_dev4 c, k0_dev4_lt c⟩ : Dev nD) = bk 1 3 c := by revert c; decide +kernel
theorem dev5 (c : Dev nD) : (⟨k0_dev5 c, k0_dev5_lt c⟩ : Dev nD) = bk 0 3 c := by revert c; decide +kernel
theorem dev6 (c : Dev nD) : (⟨k0_dev6 c, k0_dev6_lt c⟩ : Dev nD) = bk 1 3 c := by revert c; decide +kernel
theorem dev7 (c : Dev nD) : (⟨k0_dev7 c, k0_dev7_lt c⟩ : Dev nD) = bk 0 3 c := by revert c; decide +kernel
theorem dev8 (c : Dev nD) : (⟨k0_dev8 c, k0_dev8_lt c⟩ : Dev nD) = bk 1 3 c := by revert c; decide +kernel
theorem dev9 (c : Dev nD) : (⟨k0_dev9 c, k0_dev9_lt c⟩ : Dev nD) = bk 0 3 c := by revert c; decide +kernel
theorem dev10 (c : Dev nD) : (⟨k0_dev10 c, k0_dev10_lt c⟩ : Dev nD) = bk 1 3 c := by revert c; decide +kernel
theorem dev11 (c : Dev nD) : (⟨k0_dev11 c, k0_dev11_lt c⟩ : Dev nD) = bk 0 3 c := by revert c; decide +kernel
theorem dev12 (c : Dev nD) : (⟨k0_dev12 c, k0_dev12_lt c⟩ : Dev nD) = bk 1 3 c := by revert c; decide +kernel
theorem dev13 (c : Dev nD) : (⟨k0_dev13 c, k0_dev13_lt c⟩ : Dev nD) = bk 0 3 c := by revert c; decide +kernel
theorem dev14 (c : Dev nD) : (⟨k0_dev14 c, k0_dev14_lt c⟩ : Dev nD) = bk 1 3 c := by revert c; decide +kernel
theorem dev15 (c : Dev nD) : (⟨k0_dev15 c, k0_dev15_lt c⟩ : Dev nD) = bk 0 3 c := by revert c; decide +kernel
theorem dev16 (c : Dev nD) : (⟨k0_dev16 c, k0_dev16_lt c⟩ : Dev nD) = bk 1 3 c := by revert c; decide +kernel
theorem dev17 (c : Dev nD) : (⟨k0_dev17 c, k0_dev17_lt c⟩ : Dev nD) = bk 0 3 c := by revert c; decide +kernel
theorem dev18 (c : Dev nD) : (⟨k0_dev18 c, k0_dev18_lt c⟩ : Dev nD) = bk 1 3 c := by revert c; decide +kernel
theorem dev19 (c : Dev nD) : (⟨k0_dev19 c, k0_dev19_lt c⟩ : Dev nD) = bk 0 3 c := by revert c; decide +kernel
theorem dev20 (c : Dev nD) : (⟨k0_dev20 c, k0_dev20_lt c⟩ : Dev nD) = bk 1 3 c := by revert c; decide +kernel
theorem dev21 (c : Dev nD) : (⟨k0_dev21 c, k0_dev21_lt c⟩ : Dev nD) = bk 0 3 c := by revert c; decide +kernel
theorem dev22 (c : Dev nD) : (⟨k0_dev22 c, k0_dev22_lt c⟩ : Dev nD) = bk 1 3 c := by revert c; decide +kernel
theorem dev23 (c : Dev nD) : (⟨k0_dev23 c, k0_dev23_lt c⟩ : Dev nD) = bk 0 3 c := by revert c; decide +kernel
theorem dev24 (c : Dev nD) : (⟨k0_dev24 c, k0_dev24_lt c⟩ : Dev nD) = bk 1 3 c := by revert c; decide +kernel
theorem dev25 (c : Dev nD) : (⟨k0_dev25 c, k0_dev25_lt c⟩ : Dev nD) = bk 0 3 c := by revert c; decide +kernel
theorem dev26 (c : Dev nD) : (⟨k0_dev26 c, k0_dev26_lt c⟩ : Dev nD) = bk 1 3 c := by revert c; decide +kernel

theorem bk00 (c : Dev nD) : c = bk 0 0 c := by revert c; decide
theorem bk01 (c : Dev nD) : (row 3 c) = bk 0 1 c := by revert c; decide
theorem bk02 (c : Dev nD) : (row 2 c) = bk 0 2 c := by revert c; decide
theorem bk03 (c : Dev nD) : (row 1 c) = bk 0 3 c := by revert c; decide
theorem bk10 (c : Dev nD) : c = bk 1 0 c := by revert c; decide
theorem bk11 (c : Dev nD) : (row 1 c) = bk 1 1 c := by revert c; decide
theorem bk12 (c : Dev nD) : (row 2 c) = bk 1 2 c := by revert c; decide
theorem bk13 (c : Dev nD) : (row 3 c) = bk 1 3 c := by revert c; decide

end Cert.KernelIdealProof

end
-- ==== Proof.KernelIdealMoves.lean ====
/-
# The kernel's moves

The steps of the protocol at the tiles the program names: copies out of a quarter of the partial-sum buffer or out of a
landing slot, waits that bring them back, the entry barrier; and the values the tiles hold.
-/
module

public import proofs.«01_k».proof.Proof.KernelIdealSteps
public import proofs.«01_k».proof.Proof.KernelIdealOffsets

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-! ## Values -/

/-- The four quarters of the finished row `k`. -/
def finQ (k : Dev nD) (q : Fin 4) : Vec F S512x128 .f32 := fin m ρ ⟨q.val % 2, by omega⟩ ⟨q.val / 2, by omega⟩ k
/-- The finished row `k`: the sum over devices of their partial products. -/
def finRow (k : Dev nD) : Vec F S512x512 .f32 := joinQ (finQ m ρ k)
/-- Row `k` of the result on device `c`. -/
def outRow (c k : Dev nD) : Vec F S512x512 .f32 := k0_pay1 (finRow m ρ k) (w2stg m ρ c)
/-- The result on device `c`. -/
def outAt (c : Dev nD) : Vec F S2048x512 .f32 := joinR (outRow m ρ c)

theorem V3_fin (j d : Fin 2) (c k : Dev nD) (hk : k = bk d 3 c) : V m ρ 3 j d c = fin m ρ j d k := by
  subst hk; exact V_fin m ρ 0 j d c
theorem pass_fin (g s : ℕ) (hg : g = 4 + s) (j d : Fin 2) (c k : Dev nD) (hk : k = bk d s c) : k0_pay21 (unsq (V m ρ g j d c)) = fin m ρ j d k := by
  subst hg hk
  rw [pass_unsq, show 4 + s = (s + 1) + 3 from by omega, V_fin, show s + 1 + 3 = 4 + s from by omega, Nat.add_comm 4 s, ← bk_bk, bk_four]

/-! ## Copies -/

/-- What is left of a copy once it has been waited for on both its semaphores and its slot read: the two semaphores at
    zero, and the slot. -/
def Done (x : Cp) (c : Dev nD) : sProp 𝕄 := iprop(semVal (sendCell x c) 0 ∗ semVal (recvCell x c) 0 ∗ slotE x c)

omit [FloatOps F] in
theorem done_intro (x : Cp) (c : Dev nD) (X : Vec F S512x128 .f32) :
    (semVal (sendCell x c) 0 : sProp 𝕄) ⊢ iprop(semVal (recvCell x c) 0 -∗ slotO x c fullShare X -∗ Done x c) := by
  unfold Done slotE
  iintro H1 H2 H3
  isplitl [H1]; · iexact H1
  isplitl [H2]; · iexact H2
  iexists X; iexact H3

omit [FloatOps F] in
/-- A slot's share is two halves, -/
theorem slot_split (x : Cp) (c : Dev nD) (X : Vec F S512x128 .f32) :
    (slotO x c fullShare X : sProp 𝕄) ⊢ iprop(slotO x c fullShare.left X ∗ slotO x c fullShare.right X) :=
  (owns_halves (c : Thread nD τ) (slotM x) fullShare X).1
omit [FloatOps F] in
/-- and back. -/
theorem slot_join (x : Cp) (c : Dev nD) (X : Vec F S512x128 .f32) :
    (slotO x c fullShare.left X : sProp 𝕄) ⊢ iprop(slotO x c fullShare.right X -∗ slotO x c fullShare X) := by
  have h : iprop(slotO x c fullShare.left X ∗ slotO x c fullShare.right X) ⊢ (slotO x c fullShare X : sProp 𝕄) :=
    (owns_halves (c : Thread nD τ) (slotM x) fullShare X).2
  iintro H1 H2
  iapply h
  isplitl [H1]; · iexact H1
  iexact H2

/-- The four quarters of the row a device starts with, at the values it sends on. -/
theorem row_first (c : Dev nD) : (rowO hM c c (part m ρ c c) : sProp 𝕄)
    ⊢ iprop(hq c c (qd 0 0) (V m ρ 0 0 0 c) ∗ hq c c (qd 1 0) (V m ρ 0 1 0 c) ∗ hq c c (qd 0 1) (V m ρ 0 0 1 c) ∗ hq c c (qd 1 1) (V m ρ 0 1 1 c)) :=
  row_split c c (part m ρ c c)
/-- The four quarters of another row. -/
theorem row_quarts (c k : Dev nD) (X : Vec F S512x512 .f32) : (rowO hM c k X : sProp 𝕄)
    ⊢ iprop(hq c k (qd 0 0) (quart X (qd 0 0)) ∗ hq c k (qd 1 0) (quart X (qd 1 0)) ∗ hq c k (qd 0 1) (quart X (qd 0 1)) ∗ hq c k (qd 1 1) (quart X (qd 1 1))) :=
  row_split c k X

/-- The four quarters of a finished row make the row. -/
theorem row_fin [∀ e, Nonempty (Elt F e)] (c k : Dev nD) :
    (hq c k (qd 0 0) (fin m ρ 0 0 k) : sProp 𝕄) ⊢ iprop(hq c k (qd 1 0) (fin m ρ 1 0 k) -∗ hq c k (qd 0 1) (fin m ρ 0 1 k) -∗ hq c k (qd 1 1) (fin m ρ 1 1 k)
      -∗ rowO hM c k (finRow m ρ k)) := by
  iintro H1 H2 H3 H4
  iapply (row_join c k (finQ m ρ k))
  unfold quarts
  isplitl [H1]; · iexact H1
  isplitl [H2]; · iexact H2
  isplitl [H3]; · iexact H3
  iexact H4

/-- Every quarter's credit is that of a slot. -/
theorem credit_h (off : Fin 2 → ℕ) (inb : ∀ a, off a + S512x128.size a ≤ S2048x512.size a) :
    (hM.slice (Rect.unit (s := S2048x512) off S512x128.size inb) (fun _ => rfl)).view.dmaCredit = N := rfl

section Steps

variable {α : Type} {Q : α → sProp (MT nD τ sig Unit (Elt F) ℕ UU ℕ)}

/-- A copy of phase 0: a quarter of the partial-sum buffer sent on. -/
theorem send_h0 (s : Fin 3) (g : ℕ) (hg : g = s.val) (j d : Fin 2) (c k n : Dev nD) (hk : k = bk d g c) (hn : n = bk d 3 c) {off : Fin 2 → ℕ} {inb : ∀ a, off a + S512x128.size a ≤ S2048x512.size a} (hoff : off = ![512 * k.val, 128 * (qd j d).val])
    {hsc : (slotM (0, s, j, d)).view.ref.isScScratch = false}
    {hsrc : (hM.slice (Rect.unit (s := S2048x512) off S512x128.size inb) (fun _ => rfl)).view.WordExact} {hdst : (slotM (0, s, j, d)).view.WordExact}
    {hsem : DmaTarget.Typed .vmem (.dma (dsem 1 (0, s, j, d))) (.remote (Dev.tc n : Thread nD τ) (slotM (0, s, j, d)) (.dma (dsem 0 (0, s, j, d))) hsc)}
    {kk : PUnit → Prog (TpuEff nD τ sig (Elt F) Λ₀ .tc) α} (L l : List Cp) (hL : L = (0, s, j, d) :: l) :
    env m ρ K ⊢ iprop(hq c k (qd j d) (V m ρ g j d c) -∗ slotE (0, s, j, d) (bk d 3 c) -∗ Tk (0, s, j, d) c -∗ owesW c L -∗ (Fl (0, s, j, d) c -∗ owesW c l -∗ WP c (kk ⟨⟩) Q)
      -∗ WP c (.op (.enqueueDma (hM.slice (Rect.unit (s := S2048x512) off S512x128.size inb) (fun _ => rfl)) (.remote (Dev.tc n : Thread nD τ) (slotM (0, s, j, d)) (.dma (dsem 0 (0, s, j, d))) hsc) (.dma (dsem 1 (0, s, j, d))) hsrc hdst hsem) kk) Q) := by
  subst hoff hL
  exact send_step m ρ K (0, s, j, d) c n hn fullShare (V m ρ g j d c) (by subst hg; exact congrArg (fun g => V m ρ g j d c) (by show s.val = 3 * 0 + s.val; omega)) (by subst hg hk; exact .rfl) l

/-- The first copy of phase 1: a finished quarter of the partial-sum buffer sent on. -/
theorem send_h1 (j d : Fin 2) (c k n : Dev nD) (hk : k = bk d 3 c) (hn : n = bk d 3 c) {off : Fin 2 → ℕ} {inb : ∀ a, off a + S512x128.size a ≤ S2048x512.size a} (hoff : off = ![512 * k.val, 128 * (qd j d).val])
    {hsc : (slotM (1, 0, j, d)).view.ref.isScScratch = false}
    {hsrc : (hM.slice (Rect.unit (s := S2048x512) off S512x128.size inb) (fun _ => rfl)).view.WordExact} {hdst : (slotM (1, 0, j, d)).view.WordExact}
    {hsem : DmaTarget.Typed .vmem (.dma (dsem 1 (1, 0, j, d))) (.remote (Dev.tc n : Thread nD τ) (slotM (1, 0, j, d)) (.dma (dsem 0 (1, 0, j, d))) hsc)}
    {kk : PUnit → Prog (TpuEff nD τ sig (Elt F) Λ₀ .tc) α} (L l : List Cp) (hL : L = (1, 0, j, d) :: l) :
    env m ρ K ⊢ iprop(hq c k (qd j d) (V m ρ 3 j d c) -∗ slotE (1, 0, j, d) (bk d 3 c) -∗ Tk (1, 0, j, d) c -∗ owesW c L -∗ (Fl (1, 0, j, d) c -∗ owesW c l -∗ WP c (kk ⟨⟩) Q)
      -∗ WP c (.op (.enqueueDma (hM.slice (Rect.unit (s := S2048x512) off S512x128.size inb) (fun _ => rfl)) (.remote (Dev.tc n : Thread nD τ) (slotM (1, 0, j, d)) (.dma (dsem 0 (1, 0, j, d))) hsc) (.dma (dsem 1 (1, 0, j, d))) hsrc hdst hsem) kk) Q) := by
  subst hoff hL
  exact send_step m ρ K (1, 0, j, d) c n hn fullShare (V m ρ 3 j d c) rfl (by subst hk; exact .rfl) l

/-- A later copy of phase 1: half the share of a landing slot lent to send it on. -/
theorem send_s1 (j d : Fin 2) (c n : Dev nD) (hn : n = bk d 3 c)
    {hsc : (slotM (1, 1, j, d)).view.ref.isScScratch = false}
    {hsrc : (slotM (1, 0, j, d)).view.WordExact} {hdst : (slotM (1, 1, j, d)).view.WordExact}
    {hsem : DmaTarget.Typed .vmem (.dma (dsem 1 (1, 1, j, d))) (.remote (Dev.tc n : Thread nD τ) (slotM (1, 1, j, d)) (.dma (dsem 0 (1, 1, j, d))) hsc)}
    {kk : PUnit → Prog (TpuEff nD τ sig (Elt F) Λ₀ .tc) α} (L l : List Cp) (hL : L = (1, 1, j, d) :: l) :
    env m ρ K ⊢ iprop(slotO (1, 0, j, d) c fullShare.left (V m ρ 4 j d c) -∗ slotE (1, 1, j, d) (bk d 3 c) -∗ Tk (1, 1, j, d) c -∗ owesW c L -∗ (Fl (1, 1, j, d) c -∗ owesW c l -∗ WP c (kk ⟨⟩) Q)
      -∗ WP c (.op (.enqueueDma (slotM (1, 0, j, d)) (.remote (Dev.tc n : Thread nD τ) (slotM (1, 1, j, d)) (.dma (dsem 0 (1, 1, j, d))) hsc) (.dma (dsem 1 (1, 1, j, d))) hsrc hdst hsem) kk) Q) := by
  subst hL
  exact send_step m ρ K (1, 1, j, d) c n hn fullShare.left (V m ρ 4 j d c) rfl .rfl l

/-- A later copy of phase 1: half the share of a landing slot lent to send it on. -/
theorem send_s2 (j d : Fin 2) (c n : Dev nD) (hn : n = bk d 3 c)
    {hsc : (slotM (1, 2, j, d)).view.ref.isScScratch = false}
    {hsrc : (slotM (1, 1, j, d)).view.WordExact} {hdst : (slotM (1, 2, j, d)).view.WordExact}
    {hsem : DmaTarget.Typed .vmem (.dma (dsem 1 (1, 2, j, d))) (.remote (Dev.tc n : Thread nD τ) (slotM (1, 2, j, d)) (.dma (dsem 0 (1, 2, j, d))) hsc)}
    {kk : PUnit → Prog (TpuEff nD τ sig (Elt F) Λ₀ .tc) α} (L l : List Cp) (hL : L = (1, 2, j, d) :: l) :
    env m ρ K ⊢ iprop(slotO (1, 1, j, d) c fullShare.left (V m ρ 5 j d c) -∗ slotE (1, 2, j, d) (bk d 3 c) -∗ Tk (1, 2, j, d) c -∗ owesW c L -∗ (Fl (1, 2, j, d) c -∗ owesW c l -∗ WP c (kk ⟨⟩) Q)
      -∗ WP c (.op (.enqueueDma (slotM (1, 1, j, d)) (.remote (Dev.tc n : Thread nD τ) (slotM (1, 2, j, d)) (.dma (dsem 0 (1, 2, j, d))) hsc) (.dma (dsem 1 (1, 2, j, d))) hsrc hdst hsem) kk) Q) := by
  subst hL
  exact send_step m ρ K (1, 2, j, d) c n hn fullShare.left (V m ρ 5 j d c) rfl .rfl l

/-- The wait that brings back what such a copy read. -/
theorem wait_h0 (s : Fin 3) (g : ℕ) (hg : g = s.val) (j d : Fin 2) (c k : Dev nD) (hk : k = bk d g c) {sp sp' : CoreSpace} {s' : Shape} {e : EltTy} {src : Memref sig .tc sp s' e} {dst : Memref sig .tc sp' S512x128 .f32}
    (hN : dst.view.dmaCredit = N) {h1 : src.view.WordExact} {h2 : dst.view.WordExact}
    {kk : PUnit → Prog (TpuEff nD τ sig (Elt F) Λ₀ .tc) α} (l : List Cp) :
    env m ρ K ⊢ iprop(Fl (0, s, j, d) c -∗ owesW c l -∗ (semVal (sendCell (0, s, j, d) c) 0 -∗ hq c k (qd j d) (V m ρ g j d c) -∗ owesW c l -∗ WP c (kk ⟨⟩) Q)
      -∗ WP c (.op (.waitDma2 (dsem 0 (0, s, j, d)) src dst h1 h2) kk) Q) := by
  exact wait_send_step m ρ K (0, s, j, d) c (hq c k (qd j d) (V m ρ g j d c)) (by subst hg hk; rfl) hN l

/-- The wait that brings back what such a copy read. -/
theorem wait_h1 (j d : Fin 2) (c k : Dev nD) (hk : k = bk d 3 c) {sp sp' : CoreSpace} {s' : Shape} {e : EltTy} {src : Memref sig .tc sp s' e} {dst : Memref sig .tc sp' S512x128 .f32}
    (hN : dst.view.dmaCredit = N) {h1 : src.view.WordExact} {h2 : dst.view.WordExact}
    {kk : PUnit → Prog (TpuEff nD τ sig (Elt F) Λ₀ .tc) α} (l : List Cp) :
    env m ρ K ⊢ iprop(Fl (1, 0, j, d) c -∗ owesW c l -∗ (semVal (sendCell (1, 0, j, d) c) 0 -∗ hq c k (qd j d) (fin m ρ j d k) -∗ owesW c l -∗ WP c (kk ⟨⟩) Q)
      -∗ WP c (.op (.waitDma2 (dsem 0 (1, 0, j, d)) src dst h1 h2) kk) Q) := by
  exact wait_send_step m ρ K (1, 0, j, d) c (hq c k (qd j d) (fin m ρ j d k)) (by subst hk; exact congrArg (hq c (bk d 3 c) (qd j d)) (V3_fin m ρ j d c _ rfl)) hN l

/-- The wait that brings back what such a copy read. -/
theorem wait_s1 (j d : Fin 2) (c : Dev nD) {sp sp' : CoreSpace} {s' : Shape} {e : EltTy} {src : Memref sig .tc sp s' e} {dst : Memref sig .tc sp' S512x128 .f32}
    (hN : dst.view.dmaCredit = N) {h1 : src.view.WordExact} {h2 : dst.view.WordExact}
    {kk : PUnit → Prog (TpuEff nD τ sig (Elt F) Λ₀ .tc) α} (l : List Cp) :
    env m ρ K ⊢ iprop(Fl (1, 1, j, d) c -∗ owesW c l -∗ (semVal (sendCell (1, 1, j, d) c) 0 -∗ slotO (1, 0, j, d) c fullShare.left (V m ρ 4 j d c) -∗ owesW c l -∗ WP c (kk ⟨⟩) Q)
      -∗ WP c (.op (.waitDma2 (dsem 0 (1, 1, j, d)) src dst h1 h2) kk) Q) := by
  exact wait_send_step m ρ K (1, 1, j, d) c (slotO (1, 0, j, d) c fullShare.left (V m ρ 4 j d c)) rfl hN l

/-- The wait that brings back what such a copy read. -/
theorem wait_s2 (j d : Fin 2) (c : Dev nD) {sp sp' : CoreSpace} {s' : Shape} {e : EltTy} {src : Memref sig .tc sp s' e} {dst : Memref sig .tc sp' S512x128 .f32}
    (hN : dst.view.dmaCredit = N) {h1 : src.view.WordExact} {h2 : dst.view.WordExact}
    {kk : PUnit → Prog (TpuEff nD τ sig (Elt F) Λ₀ .tc) α} (l : List Cp) :
    env m ρ K ⊢ iprop(Fl (1, 2, j, d) c -∗ owesW c l -∗ (semVal (sendCell (1, 2, j, d) c) 0 -∗ slotO (1, 1, j, d) c fullShare.left (V m ρ 5 j d c) -∗ owesW c l -∗ WP c (kk ⟨⟩) Q)
      -∗ WP c (.op (.waitDma2 (dsem 0 (1, 2, j, d)) src dst h1 h2) kk) Q) := by
  exact wait_send_step m ρ K (1, 2, j, d) c (slotO (1, 1, j, d) c fullShare.left (V m ρ 5 j d c)) rfl hN l

/-- The wait for such a copy to come in. -/
theorem wait_r0 (s : Fin 3) (g : ℕ) (hg : g = s.val) (j d : Fin 2) (c : Dev nD) {sp sp' : CoreSpace} {s' : Shape} {e : EltTy} {src : Memref sig .tc sp s' e} {dst : Memref sig .tc sp' S512x128 .f32}
    (hN : dst.view.dmaCredit = N) {h1 : src.view.WordExact} {h2 : dst.view.WordExact}
    {kk : PUnit → Prog (TpuEff nD τ sig (Elt F) Λ₀ .tc) α} (l : List Cp) (hl : ∀ y ∈ l, 2 + stepOf (0, s, j, d) < 2 + stepOf y) :
    env m ρ K ⊢ iprop(Rx (0, s, j, d) c -∗ owesW c l -∗ (semVal (recvCell (0, s, j, d) c) 0 -∗ slotO (0, s, j, d) c fullShare (V m ρ g j d (bk d 1 c)) -∗ owesW c l -∗ WP c (kk ⟨⟩) Q)
      -∗ WP c (.op (.waitDma2 (dsem 1 (0, s, j, d)) src dst h1 h2) kk) Q) := by
  exact wait_recv_step m ρ K (0, s, j, d) c (V m ρ g j d (bk d 1 c)) (by subst hg; exact congrArg (fun g => V m ρ g j d (bk d 1 c)) (by show 3 * 0 + s.val = s.val; omega)) hN l hl

/-- The wait for such a copy to come in. -/
theorem wait_r1 (s : Fin 3) (g : ℕ) (hg : g = 4 + s.val) (j d : Fin 2) (c : Dev nD) {sp sp' : CoreSpace} {s' : Shape} {e : EltTy} {src : Memref sig .tc sp s' e} {dst : Memref sig .tc sp' S512x128 .f32}
    (hN : dst.view.dmaCredit = N) {h1 : src.view.WordExact} {h2 : dst.view.WordExact}
    {kk : PUnit → Prog (TpuEff nD τ sig (Elt F) Λ₀ .tc) α} (l : List Cp) (hl : ∀ y ∈ l, 2 + stepOf (1, s, j, d) < 2 + stepOf y) :
    env m ρ K ⊢ iprop(Rx (1, s, j, d) c -∗ owesW c l -∗ (semVal (recvCell (1, s, j, d) c) 0 -∗ slotO (1, s, j, d) c fullShare (V m ρ g j d c) -∗ owesW c l -∗ WP c (kk ⟨⟩) Q)
      -∗ WP c (.op (.waitDma2 (dsem 1 (1, s, j, d)) src dst h1 h2) kk) Q) := by
  exact wait_recv_step m ρ K (1, s, j, d) c (V m ρ g j d c) (by subst hg; rw [show 4 + s.val = (3 * 1 + s.val) + 1 from by omega, V_pass m ρ (3 * 1 + s.val) (by omega)]; rfl) hN l hl

/-! ## Returning, and calling a part -/

theorem ret_step (c : Dev nD) (a : α) : Q a ⊢ (WP c (.ret a) Q : sProp 𝕄) := by
  show Q a ⊢ wp frame (wpE defs₀ 𝒱₀ (c : Thread nD τ) none) Set.univ (.ret a) Q
  rw [wp_ret]
  iintro H
  imodintro
  iexact H

theorem call_step (c : Dev nD) {β : Type} (p : Prog (TpuEff nD τ sig (Elt F) Λ₀ .tc) β) (k : β → Prog (TpuEff nD τ sig (Elt F) Λ₀ .tc) α) :
    (WP c p (fun x => WP c (k x) Q) : sProp 𝕄) ⊢ WP c (p >>= k) Q := by
  show _ ⊢ wp frame (wpE defs₀ 𝒱₀ (c : Thread nD τ) none) Set.univ (p >>= k) Q
  rw [wp_bind]

/-! ## The entry barrier -/

/-- The slots of direction `d` on a device, of both phases. -/
def slotsD (d : Fin 2) (c : Dev nD) : sProp 𝕄 := bigSep Finset.univ fun y : Fin 2 × Fin 3 × Fin 2 => slotE (y.1, y.2.1, y.2.2, d) c

/-- The signal to a neighbour's barrier hands it the slots it will send to. -/
theorem signal_step (d : Fin 2) (c n k : Dev nD) (hn : n = k) (hc : c = bk d 3 k) (O : CellTallies nD τ sig Unit) (W : Waits sig Unit)
    {kk : PUnit → Prog (TpuEff nD τ sig (Elt F) Λ₀ .tc) α} :
    env m ρ K ⊢ iprop(slotsD d c -∗ dutyTok ER (barCell k) 0 d -∗ owes (c : Thread nD τ) (O + tallyAt (barCell k) () 1) W -∗ (owes (c : Thread nD τ) O W -∗ WP c (kk ⟨⟩) Q)
      -∗ WP c (.op (.semSignal (Dev.tc n : Thread nD τ) barS 1) kk) Q) := by
  subst hn
  iintro #He Hs Ht HO Hk
  ihave #HI := (env_inv m ρ K (n, none)) $$ He
  ihave #HR := (env_reached m ρ K (n, none)) $$ He
  iapply (Rounds.wp_signal 𝒱₀ ER (ringRd m ρ) (c : Thread nD τ) none (dst := (n : Thread nD τ)) (κ := K (n, none))
      (d := d) (by rw [duties_bar]; exact Finset.mem_univ _) (amount_bar m ρ n d) () O rfl) $$ [HO Ht Hs]
  · isplitr; · iexact HI
    isplitl [HO]; · iexact HO
    isplitl [Ht]; · iexact Ht
    isplitl [Hs]
    · rw [payload_bar]; unfold barPay; rw [← hc]; unfold slotsD; iexact Hs
    iexact HR
  iexact Hk

/-- The wait on the entry barrier: the slots of both neighbours come. -/
theorem bar_wait_step (c : Dev nD) (W : Waits sig Unit) {kk : PUnit → Prog (TpuEff nD τ sig (Elt F) Λ₀ .tc) α} :
    env m ρ K ⊢ iprop(cred (tallyAt (barCell c) () 2) -∗ atPos ER (barCell c) 0 (∅ : Finset (Fin 2)) 0 -∗ owes (c : Thread nD τ) (owe c allCps) W
        -∗ (semVal (barCell c) 0 -∗ slotsD 0 (bk 0 3 c) -∗ slotsD 1 (bk 1 3 c) -∗ owesW c (rest 0) -∗ WP c (kk ⟨⟩) Q)
      -∗ WP c (.op (.semWait barS 2) kk) Q) := by
  iintro #He Hc Hat HO Hk
  ihave #HI := (env_inv m ρ K (c, none)) $$ He
  ihave #Hlev := (env_lev m ρ K) $$ He
  iapply (Rounds.wp_wait_rest_token 𝒱₀ ER (ringRd m ρ) (c : Thread nD τ) none (κ := K (c, none))
      (wpE_semWait_eq 𝒱₀ (c : Thread nD τ) none Set.univ) (Set.mem_univ _) () (O := owe c allCps) (W := W) (R := 0) (m := 0) (T := ∅)
      (by rw [Nat.zero_add]; exact (expect_bar m ρ c).symm)) $$ [Hc HO Hat]
  · isplitr; · iexact HI
    isplitl [Hc]; · iexact Hc
    isplitl [HO]; · iexact HO
    isplitr
    · iapply (mayWait_of c (.reg barS) allCps 1 (le_of_eq (lv_bar c ())) (fun y _ => by omega)); iexact Hlev
    iexact Hat
  iintro ⟨HO, Hat, -, Hpay⟩
  ihave Hp := (Entails.of_eq (rest_bar m ρ c)) $$ Hpay
  imod (Rounds.cell_close ER (ringRd m ρ) (Set.mem_univ (K (c, none))) (fun h => h) (R := 0 + 1) (duties_later m ρ (barCell c))) $$ [Hat] with Hz
  · isplitr; · iexact HI
    iexact Hat
  unfold barPay
  icases Hp with ⟨H0, H1⟩
  unfold slotsD
  iapply Hk $$ Hz H0 H1
  unfold owesW
  iexists _; iexact HO

end Steps

end Cert.KernelIdealProof

end
-- ==== Proof.KernelIdealPartsA.lean ====
/-
# The kernel's parts, 1 to 10

What each part of the kernel's body does to the pieces it touches, on any device: the entry barrier, the first two rows of partial products, and step 0. A part is stated as: given the
pieces before, and a continuation from the pieces after, the part runs.
-/
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-- Part 1 of the body. -/
theorem part1 (c : Dev nD) (W : Waits sig Unit) {Q : (Σ' (d0 : Dev nD) (v2 : BitVec 32) (v5 : BitVec 32), BitVec 32) → sProp (MT nD τ sig Unit (Elt F) ℕ UU ℕ)} :
    env m ρ K ⊢ iprop(slotsD 0 c -∗
        slotsD 1 c -∗
        dutyTok ER (barCell (row 3 c)) 0 (0 : Fin 2) -∗
        dutyTok ER (barCell (row 1 c)) 0 (1 : Fin 2) -∗
        cred (tallyAt (barCell c) () 2) -∗
        atPos ER (barCell c) 0 (∅ : Finset (Fin 2)) 0 -∗
        owes (c : Thread nD τ) (O₀ c) W -∗
        (((c : Thread nD τ).loc cc0_stg0_0) ↦{fullShare} (xstg m ρ c)) -∗
        (((c : Thread nD τ).loc cc0_stg1_0) ↦{fullShare} (w1stg m ρ c)) -∗
        rowO hM c c Xh0 -∗
      (∀ w2 : BitVec 32, ∀ w5 : BitVec 32, ∀ w7 : BitVec 32, owesW c (rest 0) -∗ semVal (barCell c) 0 -∗ slotsD 0 (bk 0 3 c) -∗ slotsD 1 (bk 1 3 c) -∗ (((c : Thread nD τ).loc cc0_stg0_0) ↦{fullShare} (xstg m ρ c)) -∗ (((c : Thread nD τ).loc cc0_stg1_0) ↦{fullShare} (w1stg m ρ c)) -∗ hq c c (qd 0 0) (V m ρ 0 0 0 c) -∗ hq c c (qd 1 0) (V m ρ 0 1 0 c) -∗ hq c c (qd 0 1) (V m ρ 0 0 1 c) -∗ hq c c (qd 1 1) (V m ρ 0 1 1 c) -∗ Q ⟨c, w2, w5, w7⟩) -∗
      WP c (k0_part1 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part1_eq_skeleton]
  unfold k0_part1_skel
  simp only [Prog.lift, Prog.bind_op, Prog.bind_ret, Prog.pure_eq_ret, semSignalWord, semWaitWord, wp_deviceId]
  iintro #He Hsig0 Hsig1 Htb0 Htb1 Hcb Hpb HO Hx Hw1 Hh0 Hk
  unfold O₀
  iapply (signal_step m ρ K 0 c _ (row 3 c) (dev1 c) (by revert c; decide) (owe c allCps + tallyAt (barCell (row 1 c)) () 1) W) $$ He Hsig0 Htb0 HO
  iintro HO
  iapply (signal_step m ρ K 1 c _ (row 1 c) (dev2 c) (by revert c; decide) (owe c allCps) W) $$ He Hsig1 Htb1 HO
  iintro HO
  iapply (bar_wait_step m ρ K c W) $$ He Hcb Hpb HO
  iintro Hzb HsD0 HsD1 HO
  iapply (ld_x c c (off1 c) (xstg m ρ c)) $$ Hx; iintro Hx
  iapply (ld_w1 c (w1stg m ρ c)) $$ Hw1; iintro Hw1
  iapply (ld_row c c (off1 c) (Xh0)) $$ Hh0; iintro Hh0
  iapply (st_row c c (off1 c) (w := k0_pay2 (rowOf (xstg m ρ c) c) (w1stg m ρ c)) (Xh0) (part m ρ c c) rfl) $$ Hh0; iintro Hh0
  ihave Hq := (row_first m ρ c) $$ Hh0
  icases Hq with ⟨Hq000, Hq010, Hq001, Hq011⟩
  iapply (ret_step c _)
  iapply Hk $$ %_ %_ %_ HO Hzb HsD0 HsD1 Hx Hw1 Hq000 Hq010 Hq001 Hq011

/-- Part 2 of the body. -/
theorem part2 (c : Dev nD) (w2 w5 w7 : BitVec 32) {Q : (PUnit) → sProp (MT nD τ sig Unit (Elt F) ℕ UU ℕ)} :
    env m ρ K ⊢ iprop(slotE (0, 0, 0, 0) (bk 0 3 c) -∗
        Tk (0, 0, 0, 0) c -∗
        owesW c (rest 0) -∗
        hq c c (qd 0 0) (V m ρ 0 0 0 c) -∗
        slotE (0, 0, 0, 1) (bk 1 3 c) -∗
        Tk (0, 0, 0, 1) c -∗
        hq c c (qd 0 1) (V m ρ 0 0 1 c) -∗
      (owesW c (rest 2) -∗ Fl (0, 0, 0, 0) c -∗ Fl (0, 0, 0, 1) c -∗ Q ⟨⟩) -∗
      WP c (k0_part2 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w5 w7) Q) := by
  simp only [k0_part2_eq_skeleton]
  unfold k0_part2_skel
  simp only [Prog.lift, Prog.bind_op, Prog.bind_ret, Prog.pure_eq_ret]
  iintro #He Hs0000 Ht0000 HO Hq000 Hs0001 Ht0001 Hq001 Hk
  iapply (send_h0 m ρ K 0 0 rfl 0 0 c c _ (bk00 c) (dev3 c) (off2 c) (rest 0) (rest 1) rfl) $$ He Hq000 Hs0000 Ht0000 HO
  iintro Hf0000 HO
  iapply (send_h0 m ρ K 0 0 rfl 0 1 c c _ (bk10 c) (dev4 c) (off3 c) (rest 1) (rest 2) rfl) $$ He Hq001 Hs0001 Ht0001 HO
  iintro Hf0001 HO
  iapply (ret_step c _)
  iapply Hk $$ HO Hf0000 Hf0001

/-- Part 3 of the body. -/
theorem part3 (c : Dev nD) (Xh1 : Vec F S512x512 .f32) (w2 w5 : BitVec 32) {Q : (FVec F S512x512 .f32) → sProp (MT nD τ sig Unit (Elt F) ℕ UU ℕ)} :
    env m ρ K ⊢ iprop(slotE (0, 0, 1, 0) (bk 0 3 c) -∗
        Tk (0, 0, 1, 0) c -∗
        owesW c (rest 2) -∗
        hq c c (qd 1 0) (V m ρ 0 1 0 c) -∗
        slotE (0, 0, 1, 1) (bk 1 3 c) -∗
        Tk (0, 0, 1, 1) c -∗
        hq c c (qd 1 1) (V m ρ 0 1 1 c) -∗
        (((c : Thread nD τ).loc cc0_stg0_0) ↦{fullShare} (xstg m ρ c)) -∗
        (((c : Thread nD τ).loc cc0_stg1_0) ↦{fullShare} (w1stg m ρ c)) -∗
        rowO hM c (row 1 c) Xh1 -∗
      (owesW c (rest 4) -∗ Fl (0, 0, 1, 0) c -∗ Fl (0, 0, 1, 1) c -∗ (((c : Thread nD τ).loc cc0_stg0_0) ↦{fullShare} (xstg m ρ c)) -∗ (((c : Thread nD τ).loc cc0_stg1_0) ↦{fullShare} (w1stg m ρ c)) -∗ rowO hM c (row 1 c) Xh1 -∗ Q (k0_pay3 (rowOf (xstg m ρ c) (row 1 c)) (w1stg m ρ c))) -∗
      WP c (k0_part3 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w5) Q) := by
  simp only [k0_part3_eq_skeleton]
  unfold k0_part3_skel
  simp only [Prog.lift, Prog.bind_op, Prog.bind_ret, Prog.pure_eq_ret]
  iintro #He Hs0010 Ht0010 HO Hq010 Hs0011 Ht0011 Hq011 Hx Hw1 Hh1 Hk
  iapply (send_h0 m ρ K 0 0 rfl 1 0 c c _ (bk00 c) (dev5 c) (off4 c) (rest 2) (rest 3) rfl) $$ He Hq010 Hs0010 Ht0010 HO
  iintro Hf0010 HO
  iapply (send_h0 m ρ K 0 0 rfl 1 1 c c _ (bk10 c) (dev6 c) (off5 c) (rest 3) (rest 4) rfl) $$ He Hq011 Hs0011 Ht0011 HO
  iintro Hf0011 HO
  iapply (ld_x c (row 1 c) (off6_1 c) (xstg m ρ c)) $$ Hx; iintro Hx
  iapply (ld_w1 c (w1stg m ρ c)) $$ Hw1; iintro Hw1
  iapply (ld_row c (row 1 c) (off6_1 c) (Xh1)) $$ Hh1; iintro Hh1
  iapply (ret_step c _)
  iapply Hk $$ HO Hf0010 Hf0011 Hx Hw1 Hh1

/-- Part 4 of the body. -/
theorem part4 (c : Dev nD) (Xh1 Xh3 : Vec F S512x512 .f32) (w2 : BitVec 32) {Q : (Σ' (v97 : BitVec 32), BitVec 32) → sProp (MT nD τ sig Unit (Elt F) ℕ UU ℕ)} :
    env m ρ K ⊢ iprop(rowO hM c (row 1 c) Xh1 -∗
        (((c : Thread nD τ).loc cc0_stg0_0) ↦{fullShare} (xstg m ρ c)) -∗
        (((c : Thread nD τ).loc cc0_stg1_0) ↦{fullShare} (w1stg m ρ c)) -∗
        rowO hM c (row 3 c) Xh3 -∗
        owesW c (rest 4) -∗
        Fl (0, 0, 0, 0) c -∗
      (∀ w97 : BitVec 32, ∀ w100 : BitVec 32, hq c (row 1 c) (qd 0 0) (quart (part m ρ c (row 1 c)) (qd 0 0)) -∗ hq c (row 1 c) (qd 1 0) (quart (part m ρ c (row 1 c)) (qd 1 0)) -∗ hq c (row 1 c) (qd 0 1) (quart (part m ρ c (row 1 c)) (qd 0 1)) -∗ hq c (row 1 c) (qd 1 1) (quart (part m ρ c (row 1 c)) (qd 1 1)) -∗ (((c : Thread nD τ).loc cc0_stg0_0) ↦{fullShare} (xstg m ρ c)) -∗ (((c : Thread nD τ).loc cc0_stg1_0) ↦{fullShare} (w1stg m ρ c)) -∗ hq c (row 3 c) (qd 0 0) (quart (part m ρ c (row 3 c)) (qd 0 0)) -∗ hq c (row 3 c) (qd 1 0) (quart (part m ρ c (row 3 c)) (qd 1 0)) -∗ hq c (row 3 c) (qd 0 1) (quart (part m ρ c (row 3 c)) (qd 0 1)) -∗ hq c (row 3 c) (qd 1 1) (quart (part m ρ c (row 3 c)) (qd 1 1)) -∗ owesW c (rest 4) -∗ hq c c (qd 0 0) (V m ρ 0 0 0 c) -∗ semVal (sendCell (0, 0, 0, 0) c) 0 -∗ Q ⟨w97, w100⟩) -∗
      WP c (k0_part4 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 (k0_pay3 (rowOf (xstg m ρ c) (row 1 c)) (w1stg m ρ c))) Q) := by
  simp only [k0_part4_eq_skeleton]
  unfold k0_part4_skel
  simp only [Prog.lift, Prog.bind_op, Prog.bind_ret, Prog.pure_eq_ret]
  iintro #He Hh1 Hx Hw1 Hh3 HO Hf0000 Hk
  iapply (st_row c (row 1 c) (off6_1 c) (w := k0_pay4 (k0_pay3 (rowOf (xstg m ρ c) (row 1 c)) (w1stg m ρ c))) (Xh1) (part m ρ c (row 1 c)) rfl) $$ Hh1; iintro Hh1
  ihave Hq := (row_quarts c (row 1 c) (part m ρ c (row 1 c))) $$ Hh1
  icases Hq with ⟨Hq100, Hq110, Hq101, Hq111⟩
  iapply (ld_x c (row 3 c) (off7 c) (xstg m ρ c)) $$ Hx; iintro Hx
  iapply (ld_w1 c (w1stg m ρ c)) $$ Hw1; iintro Hw1
  iapply (ld_row c (row 3 c) (off7 c) (Xh3)) $$ Hh3; iintro Hh3
  iapply (st_row c (row 3 c) (off7 c) (w := k0_pay5 (rowOf (xstg m ρ c) (row 3 c)) (w1stg m ρ c)) (Xh3) (part m ρ c (row 3 c)) rfl) $$ Hh3; iintro Hh3
  ihave Hq := (row_quarts c (row 3 c) (part m ρ c (row 3 c))) $$ Hh3
  icases Hq with ⟨Hq300, Hq310, Hq301, Hq311⟩
  iapply (wait_h0 m ρ K 0 0 rfl 0 0 c c (bk00 c) (credit_h (k0_off2 c) _) (rest 4)) $$ He Hf0000 HO
  iintro Hz0000 Hq000 HO
  iapply (ret_step c _)
  iapply Hk $$ %_ %_ Hq100 Hq110 Hq101 Hq111 Hx Hw1 Hq300 Hq310 Hq301 Hq311 HO Hq000 Hz0000

/-- Part 5 of the body. -/
theorem part5 (c : Dev nD) (w7 w97 : BitVec 32) {Q : (PUnit) → sProp (MT nD τ sig Unit (Elt F) ℕ UU ℕ)} :
    env m ρ K ⊢ iprop(owesW c (rest 4) -∗
        Rx (0, 0, 0, 0) c -∗
        hq c (row 3 c) (qd 0 0) (quart (part m ρ c (row 3 c)) (qd 0 0)) -∗
        semVal (sendCell (0, 0, 0, 0) c) 0 -∗
      (owesW c (rest 4) -∗ hq c (row 3 c) (qd 0 0) (V m ρ 1 0 0 c) -∗ Done (0, 0, 0, 0) c -∗ Q ⟨⟩) -∗
      WP c (k0_part5 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w97) Q) := by
  simp only [k0_part5_eq_skeleton]
  unfold k0_part5_skel
  simp only [Prog.lift, Prog.bind_op, Prog.bind_ret, Prog.pure_eq_ret]
  iintro #He HO Hr0000 Hq300 Hz0000 Hk
  iapply (wait_r0 m ρ K 0 0 rfl 0 0 c (slot_credit (0, 0, 0, 0)) (rest 4) (by decide)) $$ He Hr0000 HO
  iintro Hy0000 Hl0000 HO
  iapply (ld_q c (row 3 c) (qd 0 0) (off8_1 c) (quart (part m ρ c (row 3 c)) (qd 0 0))) $$ Hq300; iintro Hq300
  iapply (ld_slot c (0, 0, 0, 0) fullShare rfl rfl (V m ρ 0 0 0 (bk 0 1 c))) $$ Hl0000; iintro Hl0000
  ihave Hd0000 := (done_intro (0, 0, 0, 0) c (V m ρ 0 0 0 (bk 0 1 c))) $$ Hz0000 Hy0000 Hl0000
  iapply (ld_q c (row 3 c) (qd 0 0) (off8_1 c) (quart (part m ρ c (row 3 c)) (qd 0 0))) $$ Hq300; iintro Hq300
  iapply (st_q c (row 3 c) (qd 0 0) (off8_1 c) (w := k0_pay6 (quart (part m ρ c (row 3 c)) (qd 0 0)) (unsq (V m ρ 0 0 0 (bk 0 1 c)))) (quart (part m ρ c (row 3 c)) (qd 0 0)) (V m ρ 1 0 0 c) (V_add m ρ 0 (by decide) 0 0 c (row 3 c) _ (bk01 c) rfl)) $$ Hq300; iintro Hq300
  iapply (ret_step c _)
  iapply Hk $$ HO Hq300 Hd0000

/-- Part 6 of the body. -/
theorem part6 (c : Dev nD) (w5 w100 : BitVec 32) {Q : (Σ' (v148 : Vec F S512x128 .f32), Vec F S1x1x1x512x128 .f32) → sProp (MT nD τ sig Unit (Elt F) ℕ UU ℕ)} :
    env m ρ K ⊢ iprop(slotE (0, 1, 0, 0) (bk 0 3 c) -∗
        Tk (0, 1, 0, 0) c -∗
        owesW c (rest 4) -∗
        hq c (row 3 c) (qd 0 0) (V m ρ 1 0 0 c) -∗
        Fl (0, 0, 0, 1) c -∗
        Rx (0, 0, 0, 1) c -∗
        hq c (row 1 c) (qd 0 1) (quart (part m ρ c (row 1 c)) (qd 0 1)) -∗
      (owesW c (rest 5) -∗ Fl (0, 1, 0, 0) c -∗ hq c c (qd 0 1) (V m ρ 0 0 1 c) -∗ hq c (row 1 c) (qd 0 1) (quart (part m ρ c (row 1 c)) (qd 0 1)) -∗ Done (0, 0, 0, 1) c -∗ Q ⟨(quart (part m ρ c (row 1 c)) (qd 0 1)), (unsq (V m ρ 0 0 1 (bk 1 1 c)))⟩) -∗
      WP c (k0_part6 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w100) Q) := by
  simp only [k0_part6_eq_skeleton]
  unfold k0_part6_skel
  simp only [Prog.lift, Prog.bind_op, Prog.bind_ret, Prog.pure_eq_ret]
  iintro #He Hs0100 Ht0100 HO Hq300 Hf0001 Hr0001 Hq101 Hk
  iapply (send_h0 m ρ K 1 1 rfl 0 0 c (row 3 c) _ (bk01 c) (dev7 c) (off9_1 c) (rest 4) (rest 5) rfl) $$ He Hq300 Hs0100 Ht0100 HO
  iintro Hf0100 HO
  iapply (wait_h0 m ρ K 0 0 rfl 0 1 c c (bk10 c) (credit_h (k0_off3 c) _) (rest 5)) $$ He Hf0001 HO
  iintro Hz0001 Hq001 HO
  iapply (wait_r0 m ρ K 0 0 rfl 0 1 c (slot_credit (0, 0, 0, 1)) (rest 5) (by decide)) $$ He Hr0001 HO
  iintro Hy0001 Hl0001 HO
  iapply (ld_q c (row 1 c) (qd 0 1) (off10_1 c) (quart (part m ρ c (row 1 c)) (qd 0 1))) $$ Hq101; iintro Hq101
  iapply (ld_slot c (0, 0, 0, 1) fullShare rfl rfl (V m ρ 0 0 1 (bk 1 1 c))) $$ Hl0001; iintro Hl0001
  ihave Hd0001 := (done_intro (0, 0, 0, 1) c (V m ρ 0 0 1 (bk 1 1 c))) $$ Hz0001 Hy0001 Hl0001
  iapply (ret_step c _)
  iapply Hk $$ HO Hf0100 Hq001 Hq101 Hd0001

/-- Part 7 of the body. -/
theorem part7 (c : Dev nD) (w5 w100 : BitVec 32) {Q : (PUnit) → sProp (MT nD τ sig Unit (Elt F) ℕ UU ℕ)} :
    env m ρ K ⊢ iprop(hq c (row 1 c) (qd 0 1) (quart (part m ρ c (row 1 c)) (qd 0 1)) -∗
        slotE (0, 1, 0, 1) (bk 1 3 c) -∗
        Tk (0, 1, 0, 1) c -∗
        owesW c (rest 5) -∗
        Fl (0, 0, 1, 0) c -∗
      (owesW c (rest 6) -∗ Fl (0, 1, 0, 1) c -∗ hq c c (qd 1 0) (V m ρ 0 1 0 c) -∗ semVal (sendCell (0, 0, 1, 0) c) 0 -∗ Q ⟨⟩) -∗
      WP c (k0_part7 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w100 ((quart (part m ρ c (row 1 c)) (qd 0 1))) ((unsq (V m ρ 0 0 1 (bk 1 1 c))))) Q) := by
  simp only [k0_part7_eq_skeleton]
  unfold k0_part7_skel
  simp only [Prog.lift, Prog.bind_op, Prog.bind_ret, Prog.pure_eq_ret]
  iintro #He Hq101 Hs0101 Ht0101 HO Hf0010 Hk
  iapply (ld_q c (row 1 c) (qd 0 1) (off10_1 c) (quart (part m ρ c (row 1 c)) (qd 0 1))) $$ Hq101; iintro Hq101
  iapply (st_q c (row 1 c) (qd 0 1) (off10_1 c) (w := k0_pay7 ((quart (part m ρ c (row 1 c)) (qd 0 1))) ((unsq (V m ρ 0 0 1 (bk 1 1 c))))) (quart (part m ρ c (row 1 c)) (qd 0 1)) (V m ρ 1 0 1 c) (V_add m ρ 0 (by decide) 0 1 c (row 1 c) _ (bk11 c) rfl)) $$ Hq101; iintro Hq101
  iapply (send_h0 m ρ K 1 1 rfl 0 1 c (row 1 c) _ (bk11 c) (dev8 c) (off11_1 c) (rest 5) (rest 6) rfl) $$ He Hq101 Hs0101 Ht0101 HO
  iintro Hf0101 HO
  iapply (wait_h0 m ρ K 0 0 rfl 1 0 c c (bk00 c) (credit_h (k0_off4 c) _) (rest 6)) $$ He Hf0010 HO
  iintro Hz0010 Hq010 HO
  iapply (ret_step c _)
  iapply Hk $$ HO Hf0101 Hq010 Hz0010

/-- Part 8 of the body. -/
theorem part8 (c : Dev nD) (w7 w97 : BitVec 32) {Q : (PUnit) → sProp (MT nD τ sig Unit (Elt F) ℕ UU ℕ)} :
    env m ρ K ⊢ iprop(owesW c (rest 6) -∗
        Rx (0, 0, 1, 0) c -∗
        hq c (row 3 c) (qd 1 0) (quart (part m ρ c (row 3 c)) (qd 1 0)) -∗
        semVal (sendCell (0, 0, 1, 0) c) 0 -∗
      (owesW c (rest 6) -∗ hq c (row 3 c) (qd 1 0) (V m ρ 1 1 0 c) -∗ Done (0, 0, 1, 0) c -∗ Q ⟨⟩) -∗
      WP c (k0_part8 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w97) Q) := by
  simp only [k0_part8_eq_skeleton]
  unfold k0_part8_skel
  simp only [Prog.lift, Prog.bind_op, Prog.bind_ret, Prog.pure_eq_ret]
  iintro #He HO Hr0010 Hq310 Hz0010 Hk
  iapply (wait_r0 m ρ K 0 0 rfl 1 0 c (slot_credit (0, 0, 1, 0)) (rest 6) (by decide)) $$ He Hr0010 HO
  iintro Hy0010 Hl0010 HO
  iapply (ld_q c (row 3 c) (qd 1 0) (off12_1 c) (quart (part m ρ c (row 3 c)) (qd 1 0))) $$ Hq310; iintro Hq310
  iapply (ld_slot c (0, 0, 1, 0) fullShare rfl rfl (V m ρ 0 1 0 (bk 0 1 c))) $$ Hl0010; iintro Hl0010
  ihave Hd0010 := (done_intro (0, 0, 1, 0) c (V m ρ 0 1 0 (bk 0 1 c))) $$ Hz0010 Hy0010 Hl0010
  iapply (ld_q c (row 3 c) (qd 1 0) (off12_1 c) (quart (part m ρ c (row 3 c)) (qd 1 0))) $$ Hq310; iintro Hq310
  iapply (st_q c (row 3 c) (qd 1 0) (off12_1 c) (w := k0_pay8 (quart (part m ρ c (row 3 c)) (qd 1 0)) (unsq (V m ρ 0 1 0 (bk 0 1 c)))) (quart (part m ρ c (row 3 c)) (qd 1 0)) (V m ρ 1 1 0 c) (V_add m ρ 0 (by decide) 1 0 c (row 3 c) _ (bk01 c) rfl)) $$ Hq310; iintro Hq310
  iapply (ret_step c _)
  iapply Hk $$ HO Hq310 Hd0010

/-- Part 9 of the body. -/
theorem part9 (c : Dev nD) (w5 w100 : BitVec 32) {Q : (Σ' (v217 : FVec F S512x128 .f32), BitVec 32) → sProp (MT nD τ sig Unit (Elt F) ℕ UU ℕ)} :
    env m ρ K ⊢ iprop(slotE (0, 1, 1, 0) (bk 0 3 c) -∗
        Tk (0, 1, 1, 0) c -∗
        owesW c (rest 6) -∗
        hq c (row 3 c) (qd 1 0) (V m ρ 1 1 0 c) -∗
        Fl (0, 0, 1, 1) c -∗
        Rx (0, 0, 1, 1) c -∗
        hq c (row 1 c) (qd 1 1) (quart (part m ρ c (row 1 c)) (qd 1 1)) -∗
      (∀ w218 : BitVec 32, owesW c (rest 7) -∗ Fl (0, 1, 1, 0) c -∗ hq c c (qd 1 1) (V m ρ 0 1 1 c) -∗ hq c (row 1 c) (qd 1 1) (quart (part m ρ c (row 1 c)) (qd 1 1)) -∗ Done (0, 0, 1, 1) c -∗ Q ⟨k0_pay9 (quart (part m ρ c (row 1 c)) (qd 1 1)) (unsq (V m ρ 0 1 1 (bk 1 1 c))), w218⟩) -∗
      WP c (k0_part9 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w100) Q) := by
  simp only [k0_part9_eq_skeleton]
  unfold k0_part9_skel
  simp only [Prog.lift, Prog.bind_op, Prog.bind_ret, Prog.pure_eq_ret]
  iintro #He Hs0110 Ht0110 HO Hq310 Hf0011 Hr0011 Hq111 Hk
  iapply (send_h0 m ρ K 1 1 rfl 1 0 c (row 3 c) _ (bk01 c) (dev9 c) (off13_1 c) (rest 6) (rest 7) rfl) $$ He Hq310 Hs0110 Ht0110 HO
  iintro Hf0110 HO
  iapply (wait_h0 m ρ K 0 0 rfl 1 1 c c (bk10 c) (credit_h (k0_off5 c) _) (rest 7)) $$ He Hf0011 HO
  iintro Hz0011 Hq011 HO
  iapply (wait_r0 m ρ K 0 0 rfl 1 1 c (slot_credit (0, 0, 1, 1)) (rest 7) (by decide)) $$ He Hr0011 HO
  iintro Hy0011 Hl0011 HO
  iapply (ld_q c (row 1 c) (qd 1 1) (off14_1 c) (quart (part m ρ c (row 1 c)) (qd 1 1))) $$ Hq111; iintro Hq111
  iapply (ld_slot c (0, 0, 1, 1) fullShare rfl rfl (V m ρ 0 1 1 (bk 1 1 c))) $$ Hl0011; iintro Hl0011
  ihave Hd0011 := (done_intro (0, 0, 1, 1) c (V m ρ 0 1 1 (bk 1 1 c))) $$ Hz0011 Hy0011 Hl0011
  iapply (ret_step c _)
  iapply Hk $$ %_ HO Hf0110 Hq011 Hq111 Hd0011

/-- Part 10 of the body. -/
theorem part10 (c : Dev nD) (w2 w5 w100 w218 : BitVec 32) {Q : (BitVec 32) → sProp (MT nD τ sig Unit (Elt F) ℕ UU ℕ)} :
    env m ρ K ⊢ iprop(hq c (row 1 c) (qd 1 1) (quart (part m ρ c (row 1 c)) (qd 1 1)) -∗
        slotE (0, 1, 1, 1) (bk 1 3 c) -∗
        Tk (0, 1, 1, 1) c -∗
        owesW c (rest 7) -∗
        (((c : Thread nD τ).loc cc0_stg0_0) ↦{fullShare} (xstg m ρ c)) -∗
        (((c : Thread nD τ).loc cc0_stg1_0) ↦{fullShare} (w1stg m ρ c)) -∗
        rowO hM c (row 2 c) Xh2 -∗
      (∀ w248 : BitVec 32, owesW c (rest 8) -∗ Fl (0, 1, 1, 1) c -∗ (((c : Thread nD τ).loc cc0_stg0_0) ↦{fullShare} (xstg m ρ c)) -∗ (((c : Thread nD τ).loc cc0_stg1_0) ↦{fullShare} (w1stg m ρ c)) -∗ hq c (row 2 c) (qd 0 0) (quart (part m ρ c (row 2 c)) (qd 0 0)) -∗ hq c (row 2 c) (qd 1 0) (quart (part m ρ c (row 2 c)) (qd 1 0)) -∗ hq c (row 2 c) (qd 0 1) (quart (part m ρ c (row 2 c)) (qd 0 1)) -∗ hq c (row 2 c) (qd 1 1) (quart (part m ρ c (row 2 c)) (qd 1 1)) -∗ Q (w248)) -∗
      WP c (k0_part10 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w5 w100 (k0_pay9 (quart (part m ρ c (row 1 c)) (qd 1 1)) (unsq (V m ρ 0 1 1 (bk 1 1 c)))) w218) Q) := by
  simp only [k0_part10_eq_skeleton]
  unfold k0_part10_skel
  simp only [Prog.lift, Prog.bind_op, Prog.bind_ret, Prog.pure_eq_ret]
  iintro #He Hq111 Hs0111 Ht0111 HO Hx Hw1 Hh2 Hk
  iapply (ld_q c (row 1 c) (qd 1 1) (off14_1 c) (quart (part m ρ c (row 1 c)) (qd 1 1))) $$ Hq111; iintro Hq111
  iapply (st_q c (row 1 c) (qd 1 1) (off14_1 c) (w := k0_pay10 (k0_pay9 (quart (part m ρ c (row 1 c)) (qd 1 1)) (unsq (V m ρ 0 1 1 (bk 1 1 c))))) (quart (part m ρ c (row 1 c)) (qd 1 1)) (V m ρ 1 1 1 c) (V_add m ρ 0 (by decide) 1 1 c (row 1 c) _ (bk11 c) rfl)) $$ Hq111; iintro Hq111
  iapply (send_h0 m ρ K 1 1 rfl 1 1 c (row 1 c) _ (bk11 c) (dev10 c) (off15_1 c) (rest 7) (rest 8) rfl) $$ He Hq111 Hs0111 Ht0111 HO
  iintro Hf0111 HO
  iapply (ld_x c (row 2 c) (off6_2 c) (xstg m ρ c)) $$ Hx; iintro Hx
  iapply (ld_w1 c (w1stg m ρ c)) $$ Hw1; iintro Hw1
  iapply (ld_row c (row 2 c) (off6_2 c) (Xh2)) $$ Hh2; iintro Hh2
  iapply (st_row c (row 2 c) (off6_2 c) (w := k0_pay11 (rowOf (xstg m ρ c) (row 2 c)) (w1stg m ρ c)) (Xh2) (part m ρ c (row 2 c)) rfl) $$ Hh2; iintro Hh2
  ihave Hq := (row_quarts c (row 2 c) (part m ρ c (row 2 c))) $$ Hh2
  icases Hq with ⟨Hq200, Hq210, Hq201, Hq211⟩
  iapply (ret_step c _)
  iapply Hk $$ %_ HO Hf0111 Hx Hw1 Hq200 Hq210 Hq201 Hq211

end Cert.KernelIdealProof

end
-- ==== Proof.KernelIdealPartsB.lean ====
/-
# The kernel's parts, 11 to 20

What each part of the kernel's body does to the pieces it touches, on any device: the second and third steps of the sums. A part is stated as: given the
pieces before, and a continuation from the pieces after, the part runs.
-/
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-- Part 11 of the body. -/
theorem part11 (c : Dev nD) (w2 w7 w248 : BitVec 32) {Q : (Σ' (v250 : BitVec 32) (v253 : BitVec 32), Vec F S512x128 .f32) → sProp (MT nD τ sig Unit (Elt F) ℕ UU ℕ)} :
    env m ρ K ⊢ iprop(owesW c (rest 8) -∗
        Fl (0, 1, 0, 0) c -∗
        Rx (0, 1, 0, 0) c -∗
        hq c (row 2 c) (qd 0 0) (quart (part m ρ c (row 2 c)) (qd 0 0)) -∗
      (∀ w250 : BitVec 32, ∀ w253 : BitVec 32, owesW c (rest 8) -∗ hq c (row 3 c) (qd 0 0) (V m ρ 1 0 0 c) -∗ semVal (sendCell (0, 1, 0, 0) c) 0 -∗ semVal (recvCell (0, 1, 0, 0) c) 0 -∗ slotO (0, 1, 0, 0) c fullShare (V m ρ 1 0 0 (bk 0 1 c)) -∗ hq c (row 2 c) (qd 0 0) (quart (part m ρ c (row 2 c)) (qd 0 0)) -∗ Q ⟨w250, w253, (quart (part m ρ c (row 2 c)) (qd 0 0))⟩) -∗
      WP c (k0_part11 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w7 w248) Q) := by
  simp only [k0_part11_eq_skeleton]
  unfold k0_part11_skel
  simp only [Prog.lift, Prog.bind_op, Prog.bind_ret, Prog.pure_eq_ret]
  iintro #He HO Hf0100 Hr0100 Hq200 Hk
  iapply (wait_h0 m ρ K 1 1 rfl 0 0 c (row 3 c) (bk01 c) (credit_h (k0_off9 c 1#32) _) (rest 8)) $$ He Hf0100 HO
  iintro Hz0100 Hq300 HO
  iapply (wait_r0 m ρ K 1 1 rfl 0 0 c (slot_credit (0, 1, 0, 0)) (rest 8) (by decide)) $$ He Hr0100 HO
  iintro Hy0100 Hl0100 HO
  iapply (ld_q c (row 2 c) (qd 0 0) (off8_2 c) (quart (part m ρ c (row 2 c)) (qd 0 0))) $$ Hq200; iintro Hq200
  iapply (ret_step c _)
  iapply Hk $$ %_ %_ HO Hq300 Hz0100 Hy0100 Hl0100 Hq200

/-- Part 12 of the body. -/
theorem part12 (c : Dev nD) (w7 w250 : BitVec 32) {Q : (PUnit) → sProp (MT nD τ sig Unit (Elt F) ℕ UU ℕ)} :
    env m ρ K ⊢ iprop(slotO (0, 1, 0, 0) c fullShare (V m ρ 1 0 0 (bk 0 1 c)) -∗
        semVal (sendCell (0, 1, 0, 0) c) 0 -∗
        semVal (recvCell (0, 1, 0, 0) c) 0 -∗
        hq c (row 2 c) (qd 0 0) (quart (part m ρ c (row 2 c)) (qd 0 0)) -∗
        slotE (0, 2, 0, 0) (bk 0 3 c) -∗
        Tk (0, 2, 0, 0) c -∗
        owesW c (rest 8) -∗
        Fl (0, 1, 0, 1) c -∗
      (Done (0, 1, 0, 0) c -∗ owesW c (rest 9) -∗ Fl (0, 2, 0, 0) c -∗ hq c (row 1 c) (qd 0 1) (V m ρ 1 0 1 c) -∗ semVal (sendCell (0, 1, 0, 1) c) 0 -∗ Q ⟨⟩) -∗
      WP c (k0_part12 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w250 ((quart (part m ρ c (row 2 c)) (qd 0 0)))) Q) := by
  simp only [k0_part12_eq_skeleton]
  unfold k0_part12_skel
  simp only [Prog.lift, Prog.bind_op, Prog.bind_ret, Prog.pure_eq_ret]
  iintro #He Hl0100 Hz0100 Hy0100 Hq200 Hs0200 Ht0200 HO Hf0101 Hk
  iapply (ld_slot c (0, 1, 0, 0) fullShare rfl rfl (V m ρ 1 0 0 (bk 0 1 c))) $$ Hl0100; iintro Hl0100
  ihave Hd0100 := (done_intro (0, 1, 0, 0) c (V m ρ 1 0 0 (bk 0 1 c))) $$ Hz0100 Hy0100 Hl0100
  iapply (ld_q c (row 2 c) (qd 0 0) (off8_2 c) (quart (part m ρ c (row 2 c)) (qd 0 0))) $$ Hq200; iintro Hq200
  iapply (st_q c (row 2 c) (qd 0 0) (off8_2 c) (w := k0_pay12 ((quart (part m ρ c (row 2 c)) (qd 0 0))) (unsq (V m ρ 1 0 0 (bk 0 1 c)))) (quart (part m ρ c (row 2 c)) (qd 0 0)) (V m ρ 2 0 0 c) (V_add m ρ 1 (by decide) 0 0 c (row 2 c) _ (bk02 c) rfl)) $$ Hq200; iintro Hq200
  iapply (send_h0 m ρ K 2 2 rfl 0 0 c (row 2 c) _ (bk02 c) (dev11 c) (off9_2 c) (rest 8) (rest 9) rfl) $$ He Hq200 Hs0200 Ht0200 HO
  iintro Hf0200 HO
  iapply (wait_h0 m ρ K 1 1 rfl 0 1 c (row 1 c) (bk11 c) (credit_h (k0_off11 c 1#32) _) (rest 9)) $$ He Hf0101 HO
  iintro Hz0101 Hq101 HO
  iapply (ret_step c _)
  iapply Hk $$ Hd0100 HO Hf0200 Hq101 Hz0101

/-- Part 13 of the body. -/
theorem part13 (c : Dev nD) (w5 w253 : BitVec 32) {Q : (PUnit) → sProp (MT nD τ sig Unit (Elt F) ℕ UU ℕ)} :
    env m ρ K ⊢ iprop(owesW c (rest 9) -∗
        Rx (0, 1, 0, 1) c -∗
        hq c (row 2 c) (qd 0 1) (quart (part m ρ c (row 2 c)) (qd 0 1)) -∗
        semVal (sendCell (0, 1, 0, 1) c) 0 -∗
      (owesW c (rest 9) -∗ hq c (row 2 c) (qd 0 1) (V m ρ 2 0 1 c) -∗ Done (0, 1, 0, 1) c -∗ Q ⟨⟩) -∗
      WP c (k0_part13 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w253) Q) := by
  simp only [k0_part13_eq_skeleton]
  unfold k0_part13_skel
  simp only [Prog.lift, Prog.bind_op, Prog.bind_ret, Prog.pure_eq_ret]
  iintro #He HO Hr0101 Hq201 Hz0101 Hk
  iapply (wait_r0 m ρ K 1 1 rfl 0 1 c (slot_credit (0, 1, 0, 1)) (rest 9) (by decide)) $$ He Hr0101 HO
  iintro Hy0101 Hl0101 HO
  iapply (ld_q c (row 2 c) (qd 0 1) (off10_2 c) (quart (part m ρ c (row 2 c)) (qd 0 1))) $$ Hq201; iintro Hq201
  iapply (ld_slot c (0, 1, 0, 1) fullShare rfl rfl (V m ρ 1 0 1 (bk 1 1 c))) $$ Hl0101; iintro Hl0101
  ihave Hd0101 := (done_intro (0, 1, 0, 1) c (V m ρ 1 0 1 (bk 1 1 c))) $$ Hz0101 Hy0101 Hl0101
  iapply (ld_q c (row 2 c) (qd 0 1) (off10_2 c) (quart (part m ρ c (row 2 c)) (qd 0 1))) $$ Hq201; iintro Hq201
  iapply (st_q c (row 2 c) (qd 0 1) (off10_2 c) (w := k0_pay13 (quart (part m ρ c (row 2 c)) (qd 0 1)) (unsq (V m ρ 1 0 1 (bk 1 1 c)))) (quart (part m ρ c (row 2 c)) (qd 0 1)) (V m ρ 2 0 1 c) (V_add m ρ 1 (by decide) 0 1 c (row 2 c) _ (bk12 c) rfl)) $$ Hq201; iintro Hq201
  iapply (ret_step c _)
  iapply Hk $$ HO Hq201 Hd0101

/-- Part 14 of the body. -/
theorem part14 (c : Dev nD) (w7 w250 : BitVec 32) {Q : (FVec F S512x128 .f32) → sProp (MT nD τ sig Unit (Elt F) ℕ UU ℕ)} :
    env m ρ K ⊢ iprop(slotE (0, 2, 0, 1) (bk 1 3 c) -∗
        Tk (0, 2, 0, 1) c -∗
        owesW c (rest 9) -∗
        hq c (row 2 c) (qd 0 1) (V m ρ 2 0 1 c) -∗
        Fl (0, 1, 1, 0) c -∗
        Rx (0, 1, 1, 0) c -∗
        hq c (row 2 c) (qd 1 0) (quart (part m ρ c (row 2 c)) (qd 1 0)) -∗
      (owesW c (rest 10) -∗ Fl (0, 2, 0, 1) c -∗ hq c (row 3 c) (qd 1 0) (V m ρ 1 1 0 c) -∗ hq c (row 2 c) (qd 1 0) (quart (part m ρ c (row 2 c)) (qd 1 0)) -∗ Done (0, 1, 1, 0) c -∗ Q (k0_pay14 (quart (part m ρ c (row 2 c)) (qd 1 0)) (unsq (V m ρ 1 1 0 (bk 0 1 c))))) -∗
      WP c (k0_part14 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w250) Q) := by
  simp only [k0_part14_eq_skeleton]
  unfold k0_part14_skel
  simp only [Prog.lift, Prog.bind_op, Prog.bind_ret, Prog.pure_eq_ret]
  iintro #He Hs0201 Ht0201 HO Hq201 Hf0110 Hr0110 Hq210 Hk
  iapply (send_h0 m ρ K 2 2 rfl 0 1 c (row 2 c) _ (bk12 c) (dev12 c) (off11_2 c) (rest 9) (rest 10) rfl) $$ He Hq201 Hs0201 Ht0201 HO
  iintro Hf0201 HO
  iapply (wait_h0 m ρ K 1 1 rfl 1 0 c (row 3 c) (bk01 c) (credit_h (k0_off13 c 1#32) _) (rest 10)) $$ He Hf0110 HO
  iintro Hz0110 Hq310 HO
  iapply (wait_r0 m ρ K 1 1 rfl 1 0 c (slot_credit (0, 1, 1, 0)) (rest 10) (by decide)) $$ He Hr0110 HO
  iintro Hy0110 Hl0110 HO
  iapply (ld_q c (row 2 c) (qd 1 0) (off12_2 c) (quart (part m ρ c (row 2 c)) (qd 1 0))) $$ Hq210; iintro Hq210
  iapply (ld_slot c (0, 1, 1, 0) fullShare rfl rfl (V m ρ 1 1 0 (bk 0 1 c))) $$ Hl0110; iintro Hl0110
  ihave Hd0110 := (done_intro (0, 1, 1, 0) c (V m ρ 1 1 0 (bk 0 1 c))) $$ Hz0110 Hy0110 Hl0110
  iapply (ret_step c _)
  iapply Hk $$ HO Hf0201 Hq310 Hq210 Hd0110

/-- Part 15 of the body. -/
theorem part15 (c : Dev nD) (w7 w250 : BitVec 32) {Q : (PUnit) → sProp (MT nD τ sig Unit (Elt F) ℕ UU ℕ)} :
    env m ρ K ⊢ iprop(hq c (row 2 c) (qd 1 0) (quart (part m ρ c (row 2 c)) (qd 1 0)) -∗
        slotE (0, 2, 1, 0) (bk 0 3 c) -∗
        Tk (0, 2, 1, 0) c -∗
        owesW c (rest 10) -∗
        Fl (0, 1, 1, 1) c -∗
      (owesW c (rest 11) -∗ Fl (0, 2, 1, 0) c -∗ hq c (row 1 c) (qd 1 1) (V m ρ 1 1 1 c) -∗ semVal (sendCell (0, 1, 1, 1) c) 0 -∗ Q ⟨⟩) -∗
      WP c (k0_part15 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w250 (k0_pay14 (quart (part m ρ c (row 2 c)) (qd 1 0)) (unsq (V m ρ 1 1 0 (bk 0 1 c))))) Q) := by
  simp only [k0_part15_eq_skeleton]
  unfold k0_part15_skel
  simp only [Prog.lift, Prog.bind_op, Prog.bind_ret, Prog.pure_eq_ret]
  iintro #He Hq210 Hs0210 Ht0210 HO Hf0111 Hk
  iapply (ld_q c (row 2 c) (qd 1 0) (off12_2 c) (quart (part m ρ c (row 2 c)) (qd 1 0))) $$ Hq210; iintro Hq210
  iapply (st_q c (row 2 c) (qd 1 0) (off12_2 c) (w := k0_pay15 (k0_pay14 (quart (part m ρ c (row 2 c)) (qd 1 0)) (unsq (V m ρ 1 1 0 (bk 0 1 c))))) (quart (part m ρ c (row 2 c)) (qd 1 0)) (V m ρ 2 1 0 c) (V_add m ρ 1 (by decide) 1 0 c (row 2 c) _ (bk02 c) rfl)) $$ Hq210; iintro Hq210
  iapply (send_h0 m ρ K 2 2 rfl 1 0 c (row 2 c) _ (bk02 c) (dev13 c) (off13_2 c) (rest 10) (rest 11) rfl) $$ He Hq210 Hs0210 Ht0210 HO
  iintro Hf0210 HO
  iapply (wait_h0 m ρ K 1 1 rfl 1 1 c (row 1 c) (bk11 c) (credit_h (k0_off15 c 1#32) _) (rest 11)) $$ He Hf0111 HO
  iintro Hz0111 Hq111 HO
  iapply (ret_step c _)
  iapply Hk $$ HO Hf0210 Hq111 Hz0111

/-- Part 16 of the body. -/
theorem part16 (c : Dev nD) (w5 w253 : BitVec 32) {Q : (PUnit) → sProp (MT nD τ sig Unit (Elt F) ℕ UU ℕ)} :
    env m ρ K ⊢ iprop(owesW c (rest 11) -∗
        Rx (0, 1, 1, 1) c -∗
        hq c (row 2 c) (qd 1 1) (quart (part m ρ c (row 2 c)) (qd 1 1)) -∗
        semVal (sendCell (0, 1, 1, 1) c) 0 -∗
      (owesW c (rest 11) -∗ hq c (row 2 c) (qd 1 1) (V m ρ 2 1 1 c) -∗ Done (0, 1, 1, 1) c -∗ Q ⟨⟩) -∗
      WP c (k0_part16 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w253) Q) := by
  simp only [k0_part16_eq_skeleton]
  unfold k0_part16_skel
  simp only [Prog.lift, Prog.bind_op, Prog.bind_ret, Prog.pure_eq_ret]
  iintro #He HO Hr0111 Hq211 Hz0111 Hk
  iapply (wait_r0 m ρ K 1 1 rfl 1 1 c (slot_credit (0, 1, 1, 1)) (rest 11) (by decide)) $$ He Hr0111 HO
  iintro Hy0111 Hl0111 HO
  iapply (ld_q c (row 2 c) (qd 1 1) (off14_2 c) (quart (part m ρ c (row 2 c)) (qd 1 1))) $$ Hq211; iintro Hq211
  iapply (ld_slot c (0, 1, 1, 1) fullShare rfl rfl (V m ρ 1 1 1 (bk 1 1 c))) $$ Hl0111; iintro Hl0111
  ihave Hd0111 := (done_intro (0, 1, 1, 1) c (V m ρ 1 1 1 (bk 1 1 c))) $$ Hz0111 Hy0111 Hl0111
  iapply (ld_q c (row 2 c) (qd 1 1) (off14_2 c) (quart (part m ρ c (row 2 c)) (qd 1 1))) $$ Hq211; iintro Hq211
  iapply (st_q c (row 2 c) (qd 1 1) (off14_2 c) (w := k0_pay16 (quart (part m ρ c (row 2 c)) (qd 1 1)) (unsq (V m ρ 1 1 1 (bk 1 1 c)))) (quart (part m ρ c (row 2 c)) (qd 1 1)) (V m ρ 2 1 1 c) (V_add m ρ 1 (by decide) 1 1 c (row 2 c) _ (bk12 c) rfl)) $$ Hq211; iintro Hq211
  iapply (ret_step c _)
  iapply Hk $$ HO Hq211 Hd0111

/-- Part 17 of the body. -/
theorem part17 (c : Dev nD) (w2 w7 : BitVec 32) {Q : (Σ' (v388 : BitVec 32) (v391 : BitVec 32), Vec F S512x128 .f32) → sProp (MT nD τ sig Unit (Elt F) ℕ UU ℕ)} :
    env m ρ K ⊢ iprop(slotE (0, 2, 1, 1) (bk 1 3 c) -∗
        Tk (0, 2, 1, 1) c -∗
        owesW c (rest 11) -∗
        hq c (row 2 c) (qd 1 1) (V m ρ 2 1 1 c) -∗
        Fl (0, 2, 0, 0) c -∗
        Rx (0, 2, 0, 0) c -∗
        hq c (row 1 c) (qd 0 0) (quart (part m ρ c (row 1 c)) (qd 0 0)) -∗
      (∀ w388 : BitVec 32, ∀ w391 : BitVec 32, owesW c (rest 12) -∗ Fl (0, 2, 1, 1) c -∗ hq c (row 2 c) (qd 0 0) (V m ρ 2 0 0 c) -∗ semVal (sendCell (0, 2, 0, 0) c) 0 -∗ semVal (recvCell (0, 2, 0, 0) c) 0 -∗ slotO (0, 2, 0, 0) c fullShare (V m ρ 2 0 0 (bk 0 1 c)) -∗ hq c (row 1 c) (qd 0 0) (quart (part m ρ c (row 1 c)) (qd 0 0)) -∗ Q ⟨w388, w391, (quart (part m ρ c (row 1 c)) (qd 0 0))⟩) -∗
      WP c (k0_part17 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w7) Q) := by
  simp only [k0_part17_eq_skeleton]
  unfold k0_part17_skel
  simp only [Prog.lift, Prog.bind_op, Prog.bind_ret, Prog.pure_eq_ret]
  iintro #He Hs0211 Ht0211 HO Hq211 Hf0200 Hr0200 Hq100 Hk
  iapply (send_h0 m ρ K 2 2 rfl 1 1 c (row 2 c) _ (bk12 c) (dev14 c) (off15_2 c) (rest 11) (rest 12) rfl) $$ He Hq211 Hs0211 Ht0211 HO
  iintro Hf0211 HO
  iapply (wait_h0 m ρ K 2 2 rfl 0 0 c (row 2 c) (bk02 c) (credit_h (k0_off9 c 2#32) _) (rest 12)) $$ He Hf0200 HO
  iintro Hz0200 Hq200 HO
  iapply (wait_r0 m ρ K 2 2 rfl 0 0 c (slot_credit (0, 2, 0, 0)) (rest 12) (by decide)) $$ He Hr0200 HO
  iintro Hy0200 Hl0200 HO
  iapply (ld_q c (row 1 c) (qd 0 0) (off16 c) (quart (part m ρ c (row 1 c)) (qd 0 0))) $$ Hq100; iintro Hq100
  iapply (ret_step c _)
  iapply Hk $$ %_ %_ HO Hf0211 Hq200 Hz0200 Hy0200 Hl0200 Hq100

/-- Part 18 of the body. -/
theorem part18 (c : Dev nD) (w7 w388 : BitVec 32) {Q : (PUnit) → sProp (MT nD τ sig Unit (Elt F) ℕ UU ℕ)} :
    env m ρ K ⊢ iprop(slotO (0, 2, 0, 0) c fullShare (V m ρ 2 0 0 (bk 0 1 c)) -∗
        semVal (sendCell (0, 2, 0, 0) c) 0 -∗
        semVal (recvCell (0, 2, 0, 0) c) 0 -∗
        hq c (row 1 c) (qd 0 0) (quart (part m ρ c (row 1 c)) (qd 0 0)) -∗
        slotE (1, 0, 0, 0) (bk 0 3 c) -∗
        Tk (1, 0, 0, 0) c -∗
        owesW c (rest 12) -∗
      (Done (0, 2, 0, 0) c -∗ owesW c (rest 13) -∗ Fl (1, 0, 0, 0) c -∗ Q ⟨⟩) -∗
      WP c (k0_part18 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w388 ((quart (part m ρ c (row 1 c)) (qd 0 0)))) Q) := by
  simp only [k0_part18_eq_skeleton]
  unfold k0_part18_skel
  simp only [Prog.lift, Prog.bind_op, Prog.bind_ret, Prog.pure_eq_ret]
  iintro #He Hl0200 Hz0200 Hy0200 Hq100 Hs1000 Ht1000 HO Hk
  iapply (ld_slot c (0, 2, 0, 0) fullShare rfl rfl (V m ρ 2 0 0 (bk 0 1 c))) $$ Hl0200; iintro Hl0200
  ihave Hd0200 := (done_intro (0, 2, 0, 0) c (V m ρ 2 0 0 (bk 0 1 c))) $$ Hz0200 Hy0200 Hl0200
  iapply (ld_q c (row 1 c) (qd 0 0) (off16 c) (quart (part m ρ c (row 1 c)) (qd 0 0))) $$ Hq100; iintro Hq100
  iapply (st_q c (row 1 c) (qd 0 0) (off16 c) (w := k0_pay17 ((quart (part m ρ c (row 1 c)) (qd 0 0))) (unsq (V m ρ 2 0 0 (bk 0 1 c)))) (quart (part m ρ c (row 1 c)) (qd 0 0)) (V m ρ 3 0 0 c) (V_add m ρ 2 (by decide) 0 0 c (row 1 c) _ (bk03 c) rfl)) $$ Hq100; iintro Hq100
  iapply (send_h1 m ρ K 0 0 c (row 1 c) _ (bk03 c) (dev15 c) (off17 c) (rest 12) (rest 13) rfl) $$ He Hq100 Hs1000 Ht1000 HO
  iintro Hf1000 HO
  iapply (ret_step c _)
  iapply Hk $$ Hd0200 HO Hf1000

/-- Part 19 of the body. -/
theorem part19 (c : Dev nD) (w5 w391 : BitVec 32) {Q : (PUnit) → sProp (MT nD τ sig Unit (Elt F) ℕ UU ℕ)} :
    env m ρ K ⊢ iprop(owesW c (rest 13) -∗
        Fl (0, 2, 0, 1) c -∗
        Rx (0, 2, 0, 1) c -∗
        hq c (row 3 c) (qd 0 1) (quart (part m ρ c (row 3 c)) (qd 0 1)) -∗
      (owesW c (rest 13) -∗ hq c (row 2 c) (qd 0 1) (V m ρ 2 0 1 c) -∗ hq c (row 3 c) (qd 0 1) (V m ρ 3 0 1 c) -∗ Done (0, 2, 0, 1) c -∗ Q ⟨⟩) -∗
      WP c (k0_part19 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w391) Q) := by
  simp only [k0_part19_eq_skeleton]
  unfold k0_part19_skel
  simp only [Prog.lift, Prog.bind_op, Prog.bind_ret, Prog.pure_eq_ret]
  iintro #He HO Hf0201 Hr0201 Hq301 Hk
  iapply (wait_h0 m ρ K 2 2 rfl 0 1 c (row 2 c) (bk12 c) (credit_h (k0_off11 c 2#32) _) (rest 13)) $$ He Hf0201 HO
  iintro Hz0201 Hq201 HO
  iapply (wait_r0 m ρ K 2 2 rfl 0 1 c (slot_credit (0, 2, 0, 1)) (rest 13) (by decide)) $$ He Hr0201 HO
  iintro Hy0201 Hl0201 HO
  iapply (ld_q c (row 3 c) (qd 0 1) (off18 c) (quart (part m ρ c (row 3 c)) (qd 0 1))) $$ Hq301; iintro Hq301
  iapply (ld_slot c (0, 2, 0, 1) fullShare rfl rfl (V m ρ 2 0 1 (bk 1 1 c))) $$ Hl0201; iintro Hl0201
  ihave Hd0201 := (done_intro (0, 2, 0, 1) c (V m ρ 2 0 1 (bk 1 1 c))) $$ Hz0201 Hy0201 Hl0201
  iapply (ld_q c (row 3 c) (qd 0 1) (off18 c) (quart (part m ρ c (row 3 c)) (qd 0 1))) $$ Hq301; iintro Hq301
  iapply (st_q c (row 3 c) (qd 0 1) (off18 c) (w := k0_pay18 (quart (part m ρ c (row 3 c)) (qd 0 1)) (unsq (V m ρ 2 0 1 (bk 1 1 c)))) (quart (part m ρ c (row 3 c)) (qd 0 1)) (V m ρ 3 0 1 c) (V_add m ρ 2 (by decide) 0 1 c (row 3 c) _ (bk13 c) rfl)) $$ Hq301; iintro Hq301
  iapply (ret_step c _)
  iapply Hk $$ HO Hq201 Hq301 Hd0201

/-- Part 20 of the body. -/
theorem part20 (c : Dev nD) (w7 w388 : BitVec 32) {Q : (Vec F S512x128 .f32) → sProp (MT nD τ sig Unit (Elt F) ℕ UU ℕ)} :
    env m ρ K ⊢ iprop(slotE (1, 0, 0, 1) (bk 1 3 c) -∗
        Tk (1, 0, 0, 1) c -∗
        owesW c (rest 13) -∗
        hq c (row 3 c) (qd 0 1) (V m ρ 3 0 1 c) -∗
        Fl (0, 2, 1, 0) c -∗
        Rx (0, 2, 1, 0) c -∗
        hq c (row 1 c) (qd 1 0) (quart (part m ρ c (row 1 c)) (qd 1 0)) -∗
      (owesW c (rest 14) -∗ Fl (1, 0, 0, 1) c -∗ hq c (row 2 c) (qd 1 0) (V m ρ 2 1 0 c) -∗ semVal (sendCell (0, 2, 1, 0) c) 0 -∗ semVal (recvCell (0, 2, 1, 0) c) 0 -∗ slotO (0, 2, 1, 0) c fullShare (V m ρ 2 1 0 (bk 0 1 c)) -∗ hq c (row 1 c) (qd 1 0) (quart (part m ρ c (row 1 c)) (qd 1 0)) -∗ Q ((quart (part m ρ c (row 1 c)) (qd 1 0)))) -∗
      WP c (k0_part20 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w388) Q) := by
  simp only [k0_part20_eq_skeleton]
  unfold k0_part20_skel
  simp only [Prog.lift, Prog.bind_op, Prog.bind_ret, Prog.pure_eq_ret]
  iintro #He Hs1001 Ht1001 HO Hq301 Hf0210 Hr0210 Hq110 Hk
  iapply (send_h1 m ρ K 0 1 c (row 3 c) _ (bk13 c) (dev16 c) (off19 c) (rest 13) (rest 14) rfl) $$ He Hq301 Hs1001 Ht1001 HO
  iintro Hf1001 HO
  iapply (wait_h0 m ρ K 2 2 rfl 1 0 c (row 2 c) (bk02 c) (credit_h (k0_off13 c 2#32) _) (rest 14)) $$ He Hf0210 HO
  iintro Hz0210 Hq210 HO
  iapply (wait_r0 m ρ K 2 2 rfl 1 0 c (slot_credit (0, 2, 1, 0)) (rest 14) (by decide)) $$ He Hr0210 HO
  iintro Hy0210 Hl0210 HO
  iapply (ld_q c (row 1 c) (qd 1 0) (off20 c) (quart (part m ρ c (row 1 c)) (qd 1 0))) $$ Hq110; iintro Hq110
  iapply (ret_step c _)
  iapply Hk $$ HO Hf1001 Hq210 Hz0210 Hy0210 Hl0210 Hq110

end Cert.KernelIdealProof

end
-- ==== Proof.KernelIdealPartsC.lean ====
/-
# The kernel's parts, 21 to 30

What each part of the kernel's body does to the pieces it touches, on any device: the last sums, and the first finished rows handed round. A part is stated as: given the
pieces before, and a continuation from the pieces after, the part runs.
-/
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-- Part 21 of the body. -/
theorem part21 (c : Dev nD) (w7 w388 : BitVec 32) {Q : (PUnit) → sProp (MT nD τ sig Unit (Elt F) ℕ UU ℕ)} :
    env m ρ K ⊢ iprop(slotO (0, 2, 1, 0) c fullShare (V m ρ 2 1 0 (bk 0 1 c)) -∗
        semVal (sendCell (0, 2, 1, 0) c) 0 -∗
        semVal (recvCell (0, 2, 1, 0) c) 0 -∗
        hq c (row 1 c) (qd 1 0) (quart (part m ρ c (row 1 c)) (qd 1 0)) -∗
        slotE (1, 0, 1, 0) (bk 0 3 c) -∗
        Tk (1, 0, 1, 0) c -∗
        owesW c (rest 14) -∗
        Fl (0, 2, 1, 1) c -∗
      (Done (0, 2, 1, 0) c -∗ owesW c (rest 15) -∗ Fl (1, 0, 1, 0) c -∗ hq c (row 2 c) (qd 1 1) (V m ρ 2 1 1 c) -∗ semVal (sendCell (0, 2, 1, 1) c) 0 -∗ Q ⟨⟩) -∗
      WP c (k0_part21 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w388 ((quart (part m ρ c (row 1 c)) (qd 1 0)))) Q) := by
  simp only [k0_part21_eq_skeleton]
  unfold k0_part21_skel
  simp only [Prog.lift, Prog.bind_op, Prog.bind_ret, Prog.pure_eq_ret]
  iintro #He Hl0210 Hz0210 Hy0210 Hq110 Hs1010 Ht1010 HO Hf0211 Hk
  iapply (ld_slot c (0, 2, 1, 0) fullShare rfl rfl (V m ρ 2 1 0 (bk 0 1 c))) $$ Hl0210; iintro Hl0210
  ihave Hd0210 := (done_intro (0, 2, 1, 0) c (V m ρ 2 1 0 (bk 0 1 c))) $$ Hz0210 Hy0210 Hl0210
  iapply (ld_q c (row 1 c) (qd 1 0) (off20 c) (quart (part m ρ c (row 1 c)) (qd 1 0))) $$ Hq110; iintro Hq110
  iapply (st_q c (row 1 c) (qd 1 0) (off20 c) (w := k0_pay19 ((quart (part m ρ c (row 1 c)) (qd 1 0))) (unsq (V m ρ 2 1 0 (bk 0 1 c)))) (quart (part m ρ c (row 1 c)) (qd 1 0)) (V m ρ 3 1 0 c) (V_add m ρ 2 (by decide) 1 0 c (row 1 c) _ (bk03 c) rfl)) $$ Hq110; iintro Hq110
  iapply (send_h1 m ρ K 1 0 c (row 1 c) _ (bk03 c) (dev17 c) (off21 c) (rest 14) (rest 15) rfl) $$ He Hq110 Hs1010 Ht1010 HO
  iintro Hf1010 HO
  iapply (wait_h0 m ρ K 2 2 rfl 1 1 c (row 2 c) (bk12 c) (credit_h (k0_off15 c 2#32) _) (rest 15)) $$ He Hf0211 HO
  iintro Hz0211 Hq211 HO
  iapply (ret_step c _)
  iapply Hk $$ Hd0210 HO Hf1010 Hq211 Hz0211

/-- Part 22 of the body. -/
theorem part22 (c : Dev nD) (w5 w391 : BitVec 32) {Q : (PUnit) → sProp (MT nD τ sig Unit (Elt F) ℕ UU ℕ)} :
    env m ρ K ⊢ iprop(owesW c (rest 15) -∗
        Rx (0, 2, 1, 1) c -∗
        hq c (row 3 c) (qd 1 1) (quart (part m ρ c (row 3 c)) (qd 1 1)) -∗
        semVal (sendCell (0, 2, 1, 1) c) 0 -∗
      (owesW c (rest 15) -∗ hq c (row 3 c) (qd 1 1) (V m ρ 3 1 1 c) -∗ Done (0, 2, 1, 1) c -∗ Q ⟨⟩) -∗
      WP c (k0_part22 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w391) Q) := by
  simp only [k0_part22_eq_skeleton]
  unfold k0_part22_skel
  simp only [Prog.lift, Prog.bind_op, Prog.bind_ret, Prog.pure_eq_ret]
  iintro #He HO Hr0211 Hq311 Hz0211 Hk
  iapply (wait_r0 m ρ K 2 2 rfl 1 1 c (slot_credit (0, 2, 1, 1)) (rest 15) (by decide)) $$ He Hr0211 HO
  iintro Hy0211 Hl0211 HO
  iapply (ld_q c (row 3 c) (qd 1 1) (off22 c) (quart (part m ρ c (row 3 c)) (qd 1 1))) $$ Hq311; iintro Hq311
  iapply (ld_slot c (0, 2, 1, 1) fullShare rfl rfl (V m ρ 2 1 1 (bk 1 1 c))) $$ Hl0211; iintro Hl0211
  ihave Hd0211 := (done_intro (0, 2, 1, 1) c (V m ρ 2 1 1 (bk 1 1 c))) $$ Hz0211 Hy0211 Hl0211
  iapply (ld_q c (row 3 c) (qd 1 1) (off22 c) (quart (part m ρ c (row 3 c)) (qd 1 1))) $$ Hq311; iintro Hq311
  iapply (st_q c (row 3 c) (qd 1 1) (off22 c) (w := k0_pay20 (quart (part m ρ c (row 3 c)) (qd 1 1)) (unsq (V m ρ 2 1 1 (bk 1 1 c)))) (quart (part m ρ c (row 3 c)) (qd 1 1)) (V m ρ 3 1 1 c) (V_add m ρ 2 (by decide) 1 1 c (row 3 c) _ (bk13 c) rfl)) $$ Hq311; iintro Hq311
  iapply (ret_step c _)
  iapply Hk $$ HO Hq311 Hd0211

/-- Part 23 of the body. -/
theorem part23 (c : Dev nD) (w2 w7 : BitVec 32) {Q : (Σ' (v526 : BitVec 32), BitVec 32) → sProp (MT nD τ sig Unit (Elt F) ℕ UU ℕ)} :
    env m ρ K ⊢ iprop(slotE (1, 0, 1, 1) (bk 1 3 c) -∗
        Tk (1, 0, 1, 1) c -∗
        owesW c (rest 15) -∗
        hq c (row 3 c) (qd 1 1) (V m ρ 3 1 1 c) -∗
        Fl (1, 0, 0, 0) c -∗
        Rx (1, 0, 0, 0) c -∗
      (∀ w526 : BitVec 32, ∀ w529 : BitVec 32, owesW c (rest 16) -∗ Fl (1, 0, 1, 1) c -∗ hq c (row 1 c) (qd 0 0) (fin m ρ 0 0 (row 1 c)) -∗ semVal (sendCell (1, 0, 0, 0) c) 0 -∗ semVal (recvCell (1, 0, 0, 0) c) 0 -∗ slotO (1, 0, 0, 0) c fullShare (V m ρ 4 0 0 c) -∗ Q ⟨w526, w529⟩) -∗
      WP c (k0_part23 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w7) Q) := by
  simp only [k0_part23_eq_skeleton]
  unfold k0_part23_skel
  simp only [Prog.lift, Prog.bind_op, Prog.bind_ret, Prog.pure_eq_ret]
  iintro #He Hs1011 Ht1011 HO Hq311 Hf1000 Hr1000 Hk
  iapply (send_h1 m ρ K 1 1 c (row 3 c) _ (bk13 c) (dev18 c) (off23 c) (rest 15) (rest 16) rfl) $$ He Hq311 Hs1011 Ht1011 HO
  iintro Hf1011 HO
  iapply (wait_h1 m ρ K 0 0 c (row 1 c) (bk03 c) (credit_h (k0_off17 c) _) (rest 16)) $$ He Hf1000 HO
  iintro Hz1000 Hq100 HO
  iapply (wait_r1 m ρ K 0 4 rfl 0 0 c (slot_credit (1, 0, 0, 0)) (rest 16) (by decide)) $$ He Hr1000 HO
  iintro Hy1000 Hl1000 HO
  iapply (ret_step c _)
  iapply Hk $$ %_ %_ HO Hf1011 Hq100 Hz1000 Hy1000 Hl1000

/-- Part 24 of the body. -/
theorem part24 (c : Dev nD) (w7 w526 : BitVec 32) {Q : (PUnit) → sProp (MT nD τ sig Unit (Elt F) ℕ UU ℕ)} :
    env m ρ K ⊢ iprop(slotE (1, 1, 0, 0) (bk 0 3 c) -∗
        Tk (1, 1, 0, 0) c -∗
        owesW c (rest 16) -∗
        slotO (1, 0, 0, 0) c fullShare (V m ρ 4 0 0 c) -∗
        hq c c (qd 0 0) (V m ρ 0 0 0 c) -∗
      (owesW c (rest 17) -∗ slotO (1, 0, 0, 0) c fullShare.right (V m ρ 4 0 0 c) -∗ Fl (1, 1, 0, 0) c -∗ hq c c (qd 0 0) (fin m ρ 0 0 c) -∗ Q ⟨⟩) -∗
      WP c (k0_part24 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w526) Q) := by
  simp only [k0_part24_eq_skeleton]
  unfold k0_part24_skel
  simp only [Prog.lift, Prog.bind_op, Prog.bind_ret, Prog.pure_eq_ret]
  iintro #He Hs1100 Ht1100 HO Hl1000 Hq000 Hk
  ihave Hhalf := (slot_split (1, 0, 0, 0) c (V m ρ 4 0 0 c)) $$ Hl1000
  icases Hhalf with ⟨Hleft, Hl1000⟩
  iapply (send_s1 m ρ K 0 0 c _ (dev19 c) (rest 16) (rest 17) rfl) $$ He Hleft Hs1100 Ht1100 HO
  iintro Hf1100 HO
  iapply (ld_slot c (1, 0, 0, 0) fullShare.right rfl rfl (V m ρ 4 0 0 c)) $$ Hl1000; iintro Hl1000
  iapply (ld_q c c (qd 0 0) (off8_0 c) (V m ρ 0 0 0 c)) $$ Hq000; iintro Hq000
  iapply (st_q c c (qd 0 0) (off8_0 c) (w := k0_pay21 (unsq (V m ρ 4 0 0 c))) (V m ρ 0 0 0 c) (fin m ρ 0 0 c) (pass_fin m ρ 4 0 rfl 0 0 c c (bk00 c))) $$ Hq000; iintro Hq000
  iapply (ret_step c _)
  iapply Hk $$ HO Hl1000 Hf1100 Hq000

/-- Part 25 of the body. -/
theorem part25 (c : Dev nD) (w5 : BitVec 32) {Q : (FVec F S512x128 .f32) → sProp (MT nD τ sig Unit (Elt F) ℕ UU ℕ)} :
    env m ρ K ⊢ iprop(owesW c (rest 17) -∗
        Fl (1, 0, 0, 1) c -∗
        Rx (1, 0, 0, 1) c -∗
        slotE (1, 1, 0, 1) (bk 1 3 c) -∗
        Tk (1, 1, 0, 1) c -∗
      (owesW c (rest 18) -∗ hq c (row 3 c) (qd 0 1) (fin m ρ 0 1 (row 3 c)) -∗ semVal (sendCell (1, 0, 0, 1) c) 0 -∗ semVal (recvCell (1, 0, 0, 1) c) 0 -∗ slotO (1, 0, 0, 1) c fullShare.right (V m ρ 4 0 1 c) -∗ Fl (1, 1, 0, 1) c -∗ Q (k0_pay22 (unsq (V m ρ 4 0 1 c)))) -∗
      WP c (k0_part25 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5) Q) := by
  simp only [k0_part25_eq_skeleton]
  unfold k0_part25_skel
  simp only [Prog.lift, Prog.bind_op, Prog.bind_ret, Prog.pure_eq_ret]
  iintro #He HO Hf1001 Hr1001 Hs1101 Ht1101 Hk
  iapply (wait_h1 m ρ K 0 1 c (row 3 c) (bk13 c) (credit_h (k0_off19 c) _) (rest 17)) $$ He Hf1001 HO
  iintro Hz1001 Hq301 HO
  iapply (wait_r1 m ρ K 0 4 rfl 0 1 c (slot_credit (1, 0, 0, 1)) (rest 17) (by decide)) $$ He Hr1001 HO
  iintro Hy1001 Hl1001 HO
  ihave Hhalf := (slot_split (1, 0, 0, 1) c (V m ρ 4 0 1 c)) $$ Hl1001
  icases Hhalf with ⟨Hleft, Hl1001⟩
  iapply (send_s1 m ρ K 0 1 c _ (dev20 c) (rest 17) (rest 18) rfl) $$ He Hleft Hs1101 Ht1101 HO
  iintro Hf1101 HO
  iapply (ld_slot c (1, 0, 0, 1) fullShare.right rfl rfl (V m ρ 4 0 1 c)) $$ Hl1001; iintro Hl1001
  iapply (ret_step c _)
  iapply Hk $$ HO Hq301 Hz1001 Hy1001 Hl1001 Hf1101

/-- Part 26 of the body. -/
theorem part26 (c : Dev nD) (w7 w529 : BitVec 32) {Q : (PUnit) → sProp (MT nD τ sig Unit (Elt F) ℕ UU ℕ)} :
    env m ρ K ⊢ iprop(hq c c (qd 0 1) (V m ρ 0 0 1 c) -∗
        owesW c (rest 18) -∗
        Fl (1, 0, 1, 0) c -∗
        Rx (1, 0, 1, 0) c -∗
      (hq c c (qd 0 1) (fin m ρ 0 1 c) -∗ owesW c (rest 18) -∗ hq c (row 1 c) (qd 1 0) (fin m ρ 1 0 (row 1 c)) -∗ semVal (sendCell (1, 0, 1, 0) c) 0 -∗ semVal (recvCell (1, 0, 1, 0) c) 0 -∗ slotO (1, 0, 1, 0) c fullShare (V m ρ 4 1 0 c) -∗ Q ⟨⟩) -∗
      WP c (k0_part26 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w529 (k0_pay22 (unsq (V m ρ 4 0 1 c)))) Q) := by
  simp only [k0_part26_eq_skeleton]
  unfold k0_part26_skel
  simp only [Prog.lift, Prog.bind_op, Prog.bind_ret, Prog.pure_eq_ret]
  iintro #He Hq001 HO Hf1010 Hr1010 Hk
  iapply (ld_q c c (qd 0 1) (off10_0 c) (V m ρ 0 0 1 c)) $$ Hq001; iintro Hq001
  iapply (st_q c c (qd 0 1) (off10_0 c) (w := k0_pay23 (k0_pay22 (unsq (V m ρ 4 0 1 c)))) (V m ρ 0 0 1 c) (fin m ρ 0 1 c) (pass_fin m ρ 4 0 rfl 0 1 c c (bk10 c))) $$ Hq001; iintro Hq001
  iapply (wait_h1 m ρ K 1 0 c (row 1 c) (bk03 c) (credit_h (k0_off21 c) _) (rest 18)) $$ He Hf1010 HO
  iintro Hz1010 Hq110 HO
  iapply (wait_r1 m ρ K 0 4 rfl 1 0 c (slot_credit (1, 0, 1, 0)) (rest 18) (by decide)) $$ He Hr1010 HO
  iintro Hy1010 Hl1010 HO
  iapply (ret_step c _)
  iapply Hk $$ Hq001 HO Hq110 Hz1010 Hy1010 Hl1010

/-- Part 27 of the body. -/
theorem part27 (c : Dev nD) (w7 w526 : BitVec 32) {Q : (PUnit) → sProp (MT nD τ sig Unit (Elt F) ℕ UU ℕ)} :
    env m ρ K ⊢ iprop(slotE (1, 1, 1, 0) (bk 0 3 c) -∗
        Tk (1, 1, 1, 0) c -∗
        owesW c (rest 18) -∗
        slotO (1, 0, 1, 0) c fullShare (V m ρ 4 1 0 c) -∗
        hq c c (qd 1 0) (V m ρ 0 1 0 c) -∗
        Fl (1, 0, 1, 1) c -∗
      (owesW c (rest 19) -∗ slotO (1, 0, 1, 0) c fullShare.right (V m ρ 4 1 0 c) -∗ Fl (1, 1, 1, 0) c -∗ hq c c (qd 1 0) (fin m ρ 1 0 c) -∗ hq c (row 3 c) (qd 1 1) (fin m ρ 1 1 (row 3 c)) -∗ semVal (sendCell (1, 0, 1, 1) c) 0 -∗ Q ⟨⟩) -∗
      WP c (k0_part27 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w526) Q) := by
  simp only [k0_part27_eq_skeleton]
  unfold k0_part27_skel
  simp only [Prog.lift, Prog.bind_op, Prog.bind_ret, Prog.pure_eq_ret]
  iintro #He Hs1110 Ht1110 HO Hl1010 Hq010 Hf1011 Hk
  ihave Hhalf := (slot_split (1, 0, 1, 0) c (V m ρ 4 1 0 c)) $$ Hl1010
  icases Hhalf with ⟨Hleft, Hl1010⟩
  iapply (send_s1 m ρ K 1 0 c _ (dev21 c) (rest 18) (rest 19) rfl) $$ He Hleft Hs1110 Ht1110 HO
  iintro Hf1110 HO
  iapply (ld_slot c (1, 0, 1, 0) fullShare.right rfl rfl (V m ρ 4 1 0 c)) $$ Hl1010; iintro Hl1010
  iapply (ld_q c c (qd 1 0) (off12_0 c) (V m ρ 0 1 0 c)) $$ Hq010; iintro Hq010
  iapply (st_q c c (qd 1 0) (off12_0 c) (w := k0_pay24 (unsq (V m ρ 4 1 0 c))) (V m ρ 0 1 0 c) (fin m ρ 1 0 c) (pass_fin m ρ 4 0 rfl 1 0 c c (bk00 c))) $$ Hq010; iintro Hq010
  iapply (wait_h1 m ρ K 1 1 c (row 3 c) (bk13 c) (credit_h (k0_off23 c) _) (rest 19)) $$ He Hf1011 HO
  iintro Hz1011 Hq311 HO
  iapply (ret_step c _)
  iapply Hk $$ HO Hl1010 Hf1110 Hq010 Hq311 Hz1011

/-- Part 28 of the body. -/
theorem part28 (c : Dev nD) (w2 w5 w529 : BitVec 32) {Q : (BitVec 32) → sProp (MT nD τ sig Unit (Elt F) ℕ UU ℕ)} :
    env m ρ K ⊢ iprop(owesW c (rest 19) -∗
        Rx (1, 0, 1, 1) c -∗
        slotE (1, 1, 1, 1) (bk 1 3 c) -∗
        Tk (1, 1, 1, 1) c -∗
        hq c c (qd 1 1) (V m ρ 0 1 1 c) -∗
      (∀ w646 : BitVec 32, owesW c (rest 20) -∗ semVal (recvCell (1, 0, 1, 1) c) 0 -∗ slotO (1, 0, 1, 1) c fullShare.right (V m ρ 4 1 1 c) -∗ Fl (1, 1, 1, 1) c -∗ hq c c (qd 1 1) (fin m ρ 1 1 c) -∗ Q (w646)) -∗
      WP c (k0_part28 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w5 w529) Q) := by
  simp only [k0_part28_eq_skeleton]
  unfold k0_part28_skel
  simp only [Prog.lift, Prog.bind_op, Prog.bind_ret, Prog.pure_eq_ret]
  iintro #He HO Hr1011 Hs1111 Ht1111 Hq011 Hk
  iapply (wait_r1 m ρ K 0 4 rfl 1 1 c (slot_credit (1, 0, 1, 1)) (rest 19) (by decide)) $$ He Hr1011 HO
  iintro Hy1011 Hl1011 HO
  ihave Hhalf := (slot_split (1, 0, 1, 1) c (V m ρ 4 1 1 c)) $$ Hl1011
  icases Hhalf with ⟨Hleft, Hl1011⟩
  iapply (send_s1 m ρ K 1 1 c _ (dev22 c) (rest 19) (rest 20) rfl) $$ He Hleft Hs1111 Ht1111 HO
  iintro Hf1111 HO
  iapply (ld_slot c (1, 0, 1, 1) fullShare.right rfl rfl (V m ρ 4 1 1 c)) $$ Hl1011; iintro Hl1011
  iapply (ld_q c c (qd 1 1) (off14_0 c) (V m ρ 0 1 1 c)) $$ Hq011; iintro Hq011
  iapply (st_q c c (qd 1 1) (off14_0 c) (w := k0_pay25 (unsq (V m ρ 4 1 1 c))) (V m ρ 0 1 1 c) (fin m ρ 1 1 c) (pass_fin m ρ 4 0 rfl 1 1 c c (bk10 c))) $$ Hq011; iintro Hq011
  iapply (ret_step c _)
  iapply Hk $$ %_ HO Hy1011 Hl1011 Hf1111 Hq011

/-- Part 29 of the body. -/
theorem part29 [∀ e, Nonempty (Elt F e)] (c : Dev nD) (Xo0 : Vec F S512x512 .f32) (w2 w646 : BitVec 32) {Q : (Σ' (v657 : BitVec 32), BitVec 32) → sProp (MT nD τ sig Unit (Elt F) ℕ UU ℕ)} :
    env m ρ K ⊢ iprop(hq c c (qd 0 0) (fin m ρ 0 0 c) -∗
        hq c c (qd 1 0) (fin m ρ 1 0 c) -∗
        hq c c (qd 0 1) (fin m ρ 0 1 c) -∗
        hq c c (qd 1 1) (fin m ρ 1 1 c) -∗
        (((c : Thread nD τ).loc cc0_stg2_0) ↦{fullShare} (w2stg m ρ c)) -∗
        rowO oM c c Xo0 -∗
        owesW c (rest 20) -∗
        Fl (1, 1, 0, 0) c -∗
        slotO (1, 0, 0, 0) c fullShare.right (V m ρ 4 0 0 c) -∗
        semVal (sendCell (1, 0, 0, 0) c) 0 -∗
        semVal (recvCell (1, 0, 0, 0) c) 0 -∗
      (∀ w657 : BitVec 32, ∀ w660 : BitVec 32, rowO hM c c (finRow m ρ c) -∗ (((c : Thread nD τ).loc cc0_stg2_0) ↦{fullShare} (w2stg m ρ c)) -∗ rowO oM c c (outRow m ρ c c) -∗ owesW c (rest 20) -∗ semVal (sendCell (1, 1, 0, 0) c) 0 -∗ Done (1, 0, 0, 0) c -∗ Q ⟨w657, w660⟩) -∗
      WP c (k0_part29 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w646) Q) := by
  simp only [k0_part29_eq_skeleton]
  unfold k0_part29_skel
  simp only [Prog.lift, Prog.bind_op, Prog.bind_ret, Prog.pure_eq_ret]
  iintro #He Hq000 Hq010 Hq001 Hq011 Hw2 Ho0 HO Hf1100 Hl1000 Hz1000 Hy1000 Hk
  ihave Hh0 := (row_fin m ρ c c) $$ Hq000 Hq010 Hq001 Hq011
  iapply (ld_row c c (off1 c) (finRow m ρ c)) $$ Hh0; iintro Hh0
  iapply (ld_w2 c (w2stg m ρ c)) $$ Hw2; iintro Hw2
  iapply (ld_row c c (off1 c) (Xo0)) $$ Ho0; iintro Ho0
  iapply (st_row c c (off1 c) (w := k0_pay26 (finRow m ρ c) (w2stg m ρ c)) (Xo0) (outRow m ρ c c) rfl) $$ Ho0; iintro Ho0
  iapply (wait_s1 m ρ K 0 0 c (slot_credit (1, 0, 0, 0)) (rest 20)) $$ He Hf1100 HO
  iintro Hz1100 Hleft HO
  ihave Hl1000 := (slot_join (1, 0, 0, 0) c (V m ρ 4 0 0 c)) $$ Hleft Hl1000
  ihave Hd1000 := (done_intro (1, 0, 0, 0) c (V m ρ 4 0 0 c)) $$ Hz1000 Hy1000 Hl1000
  iapply (ret_step c _)
  iapply Hk $$ %_ %_ Hh0 Hw2 Ho0 HO Hz1100 Hd1000

/-- Part 30 of the body. -/
theorem part30 (c : Dev nD) (w7 w657 : BitVec 32) {Q : (FVec F S512x128 .f32) → sProp (MT nD τ sig Unit (Elt F) ℕ UU ℕ)} :
    env m ρ K ⊢ iprop(owesW c (rest 20) -∗
        Rx (1, 1, 0, 0) c -∗
        slotE (1, 2, 0, 0) (bk 0 3 c) -∗
        Tk (1, 2, 0, 0) c -∗
        hq c (row 3 c) (qd 0 0) (V m ρ 1 0 0 c) -∗
      (owesW c (rest 21) -∗ semVal (recvCell (1, 1, 0, 0) c) 0 -∗ slotO (1, 1, 0, 0) c fullShare.right (V m ρ 5 0 0 c) -∗ Fl (1, 2, 0, 0) c -∗ hq c (row 3 c) (qd 0 0) (V m ρ 1 0 0 c) -∗ Q (k0_pay27 (unsq (V m ρ 5 0 0 c)))) -∗
      WP c (k0_part30 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w657) Q) := by
  simp only [k0_part30_eq_skeleton]
  unfold k0_part30_skel
  simp only [Prog.lift, Prog.bind_op, Prog.bind_ret, Prog.pure_eq_ret]
  iintro #He HO Hr1100 Hs1200 Ht1200 Hq300 Hk
  iapply (wait_r1 m ρ K 1 5 rfl 0 0 c (slot_credit (1, 1, 0, 0)) (rest 20) (by decide)) $$ He Hr1100 HO
  iintro Hy1100 Hl1100 HO
  ihave Hhalf := (slot_split (1, 1, 0, 0) c (V m ρ 5 0 0 c)) $$ Hl1100
  icases Hhalf with ⟨Hleft, Hl1100⟩
  iapply (send_s2 m ρ K 0 0 c _ (dev23 c) (rest 20) (rest 21) rfl) $$ He Hleft Hs1200 Ht1200 HO
  iintro Hf1200 HO
  iapply (ld_slot c (1, 1, 0, 0) fullShare.right rfl rfl (V m ρ 5 0 0 c)) $$ Hl1100; iintro Hl1100
  iapply (ld_q c (row 3 c) (qd 0 0) (off8_1 c) (V m ρ 1 0 0 c)) $$ Hq300; iintro Hq300
  iapply (ret_step c _)
  iapply Hk $$ HO Hy1100 Hl1100 Hf1200 Hq300

end Cert.KernelIdealProof

end
-- ==== Proof.KernelIdealPartsD.lean ====
/-
# The kernel's parts, 31 to 40

What each part of the kernel's body does to the pieces it touches, on any device: the finished rows handed on, and the result. A part is stated as: given the
pieces before, and a continuation from the pieces after, the part runs.
-/
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

/-- Part 31 of the body. -/
theorem part31 (c : Dev nD) (w5 : BitVec 32) {Q : (PUnit) → sProp (MT nD τ sig Unit (Elt F) ℕ UU ℕ)} :
    env m ρ K ⊢ iprop(hq c (row 3 c) (qd 0 0) (V m ρ 1 0 0 c) -∗
        owesW c (rest 21) -∗
        Fl (1, 1, 0, 1) c -∗
        slotO (1, 0, 0, 1) c fullShare.right (V m ρ 4 0 1 c) -∗
        semVal (sendCell (1, 0, 0, 1) c) 0 -∗
        semVal (recvCell (1, 0, 0, 1) c) 0 -∗
        Rx (1, 1, 0, 1) c -∗
      (hq c (row 3 c) (qd 0 0) (fin m ρ 0 0 (row 3 c)) -∗ owesW c (rest 21) -∗ semVal (sendCell (1, 1, 0, 1) c) 0 -∗ Done (1, 0, 0, 1) c -∗ semVal (recvCell (1, 1, 0, 1) c) 0 -∗ slotO (1, 1, 0, 1) c fullShare (V m ρ 5 0 1 c) -∗ Q ⟨⟩) -∗
      WP c (k0_part31 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 (k0_pay27 (unsq (V m ρ 5 0 0 c)))) Q) := by
  simp only [k0_part31_eq_skeleton]
  unfold k0_part31_skel
  simp only [Prog.lift, Prog.bind_op, Prog.bind_ret, Prog.pure_eq_ret]
  iintro #He Hq300 HO Hf1101 Hl1001 Hz1001 Hy1001 Hr1101 Hk
  iapply (st_q c (row 3 c) (qd 0 0) (off8_1 c) (w := k0_pay28 (k0_pay27 (unsq (V m ρ 5 0 0 c)))) (V m ρ 1 0 0 c) (fin m ρ 0 0 (row 3 c)) (pass_fin m ρ 5 1 rfl 0 0 c (row 3 c) (bk01 c))) $$ Hq300; iintro Hq300
  iapply (wait_s1 m ρ K 0 1 c (slot_credit (1, 0, 0, 1)) (rest 21)) $$ He Hf1101 HO
  iintro Hz1101 Hleft HO
  ihave Hl1001 := (slot_join (1, 0, 0, 1) c (V m ρ 4 0 1 c)) $$ Hleft Hl1001
  ihave Hd1001 := (done_intro (1, 0, 0, 1) c (V m ρ 4 0 1 c)) $$ Hz1001 Hy1001 Hl1001
  iapply (wait_r1 m ρ K 1 5 rfl 0 1 c (slot_credit (1, 1, 0, 1)) (rest 21) (by decide)) $$ He Hr1101 HO
  iintro Hy1101 Hl1101 HO
  iapply (ret_step c _)
  iapply Hk $$ Hq300 HO Hz1101 Hd1001 Hy1101 Hl1101

/-- Part 32 of the body. -/
theorem part32 (c : Dev nD) (w5 w660 : BitVec 32) {Q : (PUnit) → sProp (MT nD τ sig Unit (Elt F) ℕ UU ℕ)} :
    env m ρ K ⊢ iprop(slotE (1, 2, 0, 1) (bk 1 3 c) -∗
        Tk (1, 2, 0, 1) c -∗
        owesW c (rest 21) -∗
        slotO (1, 1, 0, 1) c fullShare (V m ρ 5 0 1 c) -∗
        hq c (row 1 c) (qd 0 1) (V m ρ 1 0 1 c) -∗
      (owesW c (rest 22) -∗ slotO (1, 1, 0, 1) c fullShare.right (V m ρ 5 0 1 c) -∗ Fl (1, 2, 0, 1) c -∗ hq c (row 1 c) (qd 0 1) (fin m ρ 0 1 (row 1 c)) -∗ Q ⟨⟩) -∗
      WP c (k0_part32 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w660) Q) := by
  simp only [k0_part32_eq_skeleton]
  unfold k0_part32_skel
  simp only [Prog.lift, Prog.bind_op, Prog.bind_ret, Prog.pure_eq_ret]
  iintro #He Hs1201 Ht1201 HO Hl1101 Hq101 Hk
  ihave Hhalf := (slot_split (1, 1, 0, 1) c (V m ρ 5 0 1 c)) $$ Hl1101
  icases Hhalf with ⟨Hleft, Hl1101⟩
  iapply (send_s2 m ρ K 0 1 c _ (dev24 c) (rest 21) (rest 22) rfl) $$ He Hleft Hs1201 Ht1201 HO
  iintro Hf1201 HO
  iapply (ld_slot c (1, 1, 0, 1) fullShare.right rfl rfl (V m ρ 5 0 1 c)) $$ Hl1101; iintro Hl1101
  iapply (ld_q c (row 1 c) (qd 0 1) (off10_1 c) (V m ρ 1 0 1 c)) $$ Hq101; iintro Hq101
  iapply (st_q c (row 1 c) (qd 0 1) (off10_1 c) (w := k0_pay29 (unsq (V m ρ 5 0 1 c))) (V m ρ 1 0 1 c) (fin m ρ 0 1 (row 1 c)) (pass_fin m ρ 5 1 rfl 0 1 c (row 1 c) (bk11 c))) $$ Hq101; iintro Hq101
  iapply (ret_step c _)
  iapply Hk $$ HO Hl1101 Hf1201 Hq101

/-- Part 33 of the body. -/
theorem part33 (c : Dev nD) (w7 : BitVec 32) {Q : (PUnit) → sProp (MT nD τ sig Unit (Elt F) ℕ UU ℕ)} :
    env m ρ K ⊢ iprop(owesW c (rest 22) -∗
        Fl (1, 1, 1, 0) c -∗
        slotO (1, 0, 1, 0) c fullShare.right (V m ρ 4 1 0 c) -∗
        semVal (sendCell (1, 0, 1, 0) c) 0 -∗
        semVal (recvCell (1, 0, 1, 0) c) 0 -∗
        Rx (1, 1, 1, 0) c -∗
        slotE (1, 2, 1, 0) (bk 0 3 c) -∗
        Tk (1, 2, 1, 0) c -∗
      (owesW c (rest 23) -∗ semVal (sendCell (1, 1, 1, 0) c) 0 -∗ Done (1, 0, 1, 0) c -∗ semVal (recvCell (1, 1, 1, 0) c) 0 -∗ slotO (1, 1, 1, 0) c fullShare.right (V m ρ 5 1 0 c) -∗ Fl (1, 2, 1, 0) c -∗ Q ⟨⟩) -∗
      WP c (k0_part33 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7) Q) := by
  simp only [k0_part33_eq_skeleton]
  unfold k0_part33_skel
  simp only [Prog.lift, Prog.bind_op, Prog.bind_ret, Prog.pure_eq_ret]
  iintro #He HO Hf1110 Hl1010 Hz1010 Hy1010 Hr1110 Hs1210 Ht1210 Hk
  iapply (wait_s1 m ρ K 1 0 c (slot_credit (1, 0, 1, 0)) (rest 22)) $$ He Hf1110 HO
  iintro Hz1110 Hleft HO
  ihave Hl1010 := (slot_join (1, 0, 1, 0) c (V m ρ 4 1 0 c)) $$ Hleft Hl1010
  ihave Hd1010 := (done_intro (1, 0, 1, 0) c (V m ρ 4 1 0 c)) $$ Hz1010 Hy1010 Hl1010
  iapply (wait_r1 m ρ K 1 5 rfl 1 0 c (slot_credit (1, 1, 1, 0)) (rest 22) (by decide)) $$ He Hr1110 HO
  iintro Hy1110 Hl1110 HO
  ihave Hhalf := (slot_split (1, 1, 1, 0) c (V m ρ 5 1 0 c)) $$ Hl1110
  icases Hhalf with ⟨Hleft, Hl1110⟩
  iapply (send_s2 m ρ K 1 0 c _ (dev25 c) (rest 22) (rest 23) rfl) $$ He Hleft Hs1210 Ht1210 HO
  iintro Hf1210 HO
  iapply (ret_step c _)
  iapply Hk $$ HO Hz1110 Hd1010 Hy1110 Hl1110 Hf1210

/-- Part 34 of the body. -/
theorem part34 (c : Dev nD) (w5 w657 : BitVec 32) {Q : (PUnit) → sProp (MT nD τ sig Unit (Elt F) ℕ UU ℕ)} :
    env m ρ K ⊢ iprop(slotO (1, 1, 1, 0) c fullShare.right (V m ρ 5 1 0 c) -∗
        hq c (row 3 c) (qd 1 0) (V m ρ 1 1 0 c) -∗
        owesW c (rest 23) -∗
        Fl (1, 1, 1, 1) c -∗
        slotO (1, 0, 1, 1) c fullShare.right (V m ρ 4 1 1 c) -∗
        semVal (sendCell (1, 0, 1, 1) c) 0 -∗
        semVal (recvCell (1, 0, 1, 1) c) 0 -∗
      (slotO (1, 1, 1, 0) c fullShare.right (V m ρ 5 1 0 c) -∗ hq c (row 3 c) (qd 1 0) (fin m ρ 1 0 (row 3 c)) -∗ owesW c (rest 23) -∗ semVal (sendCell (1, 1, 1, 1) c) 0 -∗ Done (1, 0, 1, 1) c -∗ Q ⟨⟩) -∗
      WP c (k0_part34 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w657) Q) := by
  simp only [k0_part34_eq_skeleton]
  unfold k0_part34_skel
  simp only [Prog.lift, Prog.bind_op, Prog.bind_ret, Prog.pure_eq_ret]
  iintro #He Hl1110 Hq310 HO Hf1111 Hl1011 Hz1011 Hy1011 Hk
  iapply (ld_slot c (1, 1, 1, 0) fullShare.right rfl rfl (V m ρ 5 1 0 c)) $$ Hl1110; iintro Hl1110
  iapply (ld_q c (row 3 c) (qd 1 0) (off12_1 c) (V m ρ 1 1 0 c)) $$ Hq310; iintro Hq310
  iapply (st_q c (row 3 c) (qd 1 0) (off12_1 c) (w := k0_pay30 (unsq (V m ρ 5 1 0 c))) (V m ρ 1 1 0 c) (fin m ρ 1 0 (row 3 c)) (pass_fin m ρ 5 1 rfl 1 0 c (row 3 c) (bk01 c))) $$ Hq310; iintro Hq310
  iapply (wait_s1 m ρ K 1 1 c (slot_credit (1, 0, 1, 1)) (rest 23)) $$ He Hf1111 HO
  iintro Hz1111 Hleft HO
  ihave Hl1011 := (slot_join (1, 0, 1, 1) c (V m ρ 4 1 1 c)) $$ Hleft Hl1011
  ihave Hd1011 := (done_intro (1, 0, 1, 1) c (V m ρ 4 1 1 c)) $$ Hz1011 Hy1011 Hl1011
  iapply (ret_step c _)
  iapply Hk $$ Hl1110 Hq310 HO Hz1111 Hd1011

/-- Part 35 of the body. -/
theorem part35 [∀ e, Nonempty (Elt F e)] (c : Dev nD) (w2 w5 w660 : BitVec 32) {Q : (Σ' (v787 : BitVec 32), Vec F S512x512 .f32) → sProp (MT nD τ sig Unit (Elt F) ℕ UU ℕ)} :
    env m ρ K ⊢ iprop(owesW c (rest 23) -∗
        Rx (1, 1, 1, 1) c -∗
        slotE (1, 2, 1, 1) (bk 1 3 c) -∗
        Tk (1, 2, 1, 1) c -∗
        hq c (row 1 c) (qd 1 1) (V m ρ 1 1 1 c) -∗
        hq c (row 1 c) (qd 0 0) (fin m ρ 0 0 (row 1 c)) -∗
        hq c (row 1 c) (qd 1 0) (fin m ρ 1 0 (row 1 c)) -∗
        hq c (row 1 c) (qd 0 1) (fin m ρ 0 1 (row 1 c)) -∗
      (∀ w787 : BitVec 32, owesW c (rest 24) -∗ semVal (recvCell (1, 1, 1, 1) c) 0 -∗ slotO (1, 1, 1, 1) c fullShare.right (V m ρ 5 1 1 c) -∗ Fl (1, 2, 1, 1) c -∗ rowO hM c (row 1 c) (finRow m ρ (row 1 c)) -∗ Q ⟨w787, (finRow m ρ (row 1 c))⟩) -∗
      WP c (k0_part35 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w5 w660) Q) := by
  simp only [k0_part35_eq_skeleton]
  unfold k0_part35_skel
  simp only [Prog.lift, Prog.bind_op, Prog.bind_ret, Prog.pure_eq_ret]
  iintro #He HO Hr1111 Hs1211 Ht1211 Hq111 Hq100 Hq110 Hq101 Hk
  iapply (wait_r1 m ρ K 1 5 rfl 1 1 c (slot_credit (1, 1, 1, 1)) (rest 23) (by decide)) $$ He Hr1111 HO
  iintro Hy1111 Hl1111 HO
  ihave Hhalf := (slot_split (1, 1, 1, 1) c (V m ρ 5 1 1 c)) $$ Hl1111
  icases Hhalf with ⟨Hleft, Hl1111⟩
  iapply (send_s2 m ρ K 1 1 c _ (dev26 c) (rest 23) (rest 24) rfl) $$ He Hleft Hs1211 Ht1211 HO
  iintro Hf1211 HO
  iapply (ld_slot c (1, 1, 1, 1) fullShare.right rfl rfl (V m ρ 5 1 1 c)) $$ Hl1111; iintro Hl1111
  iapply (ld_q c (row 1 c) (qd 1 1) (off14_1 c) (V m ρ 1 1 1 c)) $$ Hq111; iintro Hq111
  iapply (st_q c (row 1 c) (qd 1 1) (off14_1 c) (w := k0_pay31 (unsq (V m ρ 5 1 1 c))) (V m ρ 1 1 1 c) (fin m ρ 1 1 (row 1 c)) (pass_fin m ρ 5 1 rfl 1 1 c (row 1 c) (bk11 c))) $$ Hq111; iintro Hq111
  ihave Hh1 := (row_fin m ρ c (row 1 c)) $$ Hq100 Hq110 Hq101 Hq111
  iapply (ld_row c (row 1 c) (off6_1 c) (finRow m ρ (row 1 c))) $$ Hh1; iintro Hh1
  iapply (ret_step c _)
  iapply Hk $$ %_ HO Hy1111 Hl1111 Hf1211 Hh1

/-- Part 36 of the body. -/
theorem part36 [∀ e, Nonempty (Elt F e)] (c : Dev nD) (Xo1 Xo3 : Vec F S512x512 .f32) (w2 w787 : BitVec 32) {Q : (Σ' (v811 : BitVec 32), BitVec 32) → sProp (MT nD τ sig Unit (Elt F) ℕ UU ℕ)} :
    env m ρ K ⊢ iprop((((c : Thread nD τ).loc cc0_stg2_0) ↦{fullShare} (w2stg m ρ c)) -∗
        rowO oM c (row 1 c) Xo1 -∗
        hq c (row 3 c) (qd 0 0) (fin m ρ 0 0 (row 3 c)) -∗
        hq c (row 3 c) (qd 1 0) (fin m ρ 1 0 (row 3 c)) -∗
        hq c (row 3 c) (qd 0 1) (fin m ρ 0 1 (row 3 c)) -∗
        hq c (row 3 c) (qd 1 1) (fin m ρ 1 1 (row 3 c)) -∗
        rowO oM c (row 3 c) Xo3 -∗
      (∀ w811 : BitVec 32, ∀ w814 : BitVec 32, (((c : Thread nD τ).loc cc0_stg2_0) ↦{fullShare} (w2stg m ρ c)) -∗ rowO oM c (row 1 c) (outRow m ρ c (row 1 c)) -∗ rowO hM c (row 3 c) (finRow m ρ (row 3 c)) -∗ rowO oM c (row 3 c) (outRow m ρ c (row 3 c)) -∗ Q ⟨w811, w814⟩) -∗
      WP c (k0_part36 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w2 w787 ((finRow m ρ (row 1 c)))) Q) := by
  simp only [k0_part36_eq_skeleton]
  unfold k0_part36_skel
  simp only [Prog.lift, Prog.bind_op, Prog.bind_ret, Prog.pure_eq_ret]
  iintro #He Hw2 Ho1 Hq300 Hq310 Hq301 Hq311 Ho3 Hk
  iapply (ld_w2 c (w2stg m ρ c)) $$ Hw2; iintro Hw2
  iapply (ld_row c (row 1 c) (off6_1 c) (Xo1)) $$ Ho1; iintro Ho1
  iapply (st_row c (row 1 c) (off6_1 c) (w := k0_pay32 ((finRow m ρ (row 1 c))) (w2stg m ρ c)) (Xo1) (outRow m ρ c (row 1 c)) rfl) $$ Ho1; iintro Ho1
  ihave Hh3 := (row_fin m ρ c (row 3 c)) $$ Hq300 Hq310 Hq301 Hq311
  iapply (ld_row c (row 3 c) (off7 c) (finRow m ρ (row 3 c))) $$ Hh3; iintro Hh3
  iapply (ld_w2 c (w2stg m ρ c)) $$ Hw2; iintro Hw2
  iapply (ld_row c (row 3 c) (off7 c) (Xo3)) $$ Ho3; iintro Ho3
  iapply (st_row c (row 3 c) (off7 c) (w := k0_pay33 (finRow m ρ (row 3 c)) (w2stg m ρ c)) (Xo3) (outRow m ρ c (row 3 c)) rfl) $$ Ho3; iintro Ho3
  iapply (ret_step c _)
  iapply Hk $$ %_ %_ Hw2 Ho1 Hh3 Ho3

/-- Part 37 of the body. -/
theorem part37 (c : Dev nD) (w7 w811 : BitVec 32) {Q : (PUnit) → sProp (MT nD τ sig Unit (Elt F) ℕ UU ℕ)} :
    env m ρ K ⊢ iprop(owesW c (rest 24) -∗
        Fl (1, 2, 0, 0) c -∗
        slotO (1, 1, 0, 0) c fullShare.right (V m ρ 5 0 0 c) -∗
        semVal (sendCell (1, 1, 0, 0) c) 0 -∗
        semVal (recvCell (1, 1, 0, 0) c) 0 -∗
        Rx (1, 2, 0, 0) c -∗
        hq c (row 2 c) (qd 0 0) (V m ρ 2 0 0 c) -∗
      (owesW c (rest 24) -∗ Done (1, 1, 0, 0) c -∗ Done (1, 2, 0, 0) c -∗ hq c (row 2 c) (qd 0 0) (fin m ρ 0 0 (row 2 c)) -∗ Q ⟨⟩) -∗
      WP c (k0_part37 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w811) Q) := by
  simp only [k0_part37_eq_skeleton]
  unfold k0_part37_skel
  simp only [Prog.lift, Prog.bind_op, Prog.bind_ret, Prog.pure_eq_ret]
  iintro #He HO Hf1200 Hl1100 Hz1100 Hy1100 Hr1200 Hq200 Hk
  iapply (wait_s2 m ρ K 0 0 c (slot_credit (1, 1, 0, 0)) (rest 24)) $$ He Hf1200 HO
  iintro Hz1200 Hleft HO
  ihave Hl1100 := (slot_join (1, 1, 0, 0) c (V m ρ 5 0 0 c)) $$ Hleft Hl1100
  ihave Hd1100 := (done_intro (1, 1, 0, 0) c (V m ρ 5 0 0 c)) $$ Hz1100 Hy1100 Hl1100
  iapply (wait_r1 m ρ K 2 6 rfl 0 0 c (slot_credit (1, 2, 0, 0)) (rest 24) (by decide)) $$ He Hr1200 HO
  iintro Hy1200 Hl1200 HO
  iapply (ld_slot c (1, 2, 0, 0) fullShare rfl rfl (V m ρ 6 0 0 c)) $$ Hl1200; iintro Hl1200
  ihave Hd1200 := (done_intro (1, 2, 0, 0) c (V m ρ 6 0 0 c)) $$ Hz1200 Hy1200 Hl1200
  iapply (ld_q c (row 2 c) (qd 0 0) (off8_2 c) (V m ρ 2 0 0 c)) $$ Hq200; iintro Hq200
  iapply (st_q c (row 2 c) (qd 0 0) (off8_2 c) (w := k0_pay34 (unsq (V m ρ 6 0 0 c))) (V m ρ 2 0 0 c) (fin m ρ 0 0 (row 2 c)) (pass_fin m ρ 6 2 rfl 0 0 c (row 2 c) (bk02 c))) $$ Hq200; iintro Hq200
  iapply (ret_step c _)
  iapply Hk $$ HO Hd1100 Hd1200 Hq200

/-- Part 38 of the body. -/
theorem part38 (c : Dev nD) (w5 w814 : BitVec 32) {Q : (PUnit) → sProp (MT nD τ sig Unit (Elt F) ℕ UU ℕ)} :
    env m ρ K ⊢ iprop(owesW c (rest 24) -∗
        Fl (1, 2, 0, 1) c -∗
        slotO (1, 1, 0, 1) c fullShare.right (V m ρ 5 0 1 c) -∗
        semVal (sendCell (1, 1, 0, 1) c) 0 -∗
        semVal (recvCell (1, 1, 0, 1) c) 0 -∗
        Rx (1, 2, 0, 1) c -∗
        hq c (row 2 c) (qd 0 1) (V m ρ 2 0 1 c) -∗
      (owesW c (rest 24) -∗ Done (1, 1, 0, 1) c -∗ Done (1, 2, 0, 1) c -∗ hq c (row 2 c) (qd 0 1) (fin m ρ 0 1 (row 2 c)) -∗ Q ⟨⟩) -∗
      WP c (k0_part38 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 w814) Q) := by
  simp only [k0_part38_eq_skeleton]
  unfold k0_part38_skel
  simp only [Prog.lift, Prog.bind_op, Prog.bind_ret, Prog.pure_eq_ret]
  iintro #He HO Hf1201 Hl1101 Hz1101 Hy1101 Hr1201 Hq201 Hk
  iapply (wait_s2 m ρ K 0 1 c (slot_credit (1, 1, 0, 1)) (rest 24)) $$ He Hf1201 HO
  iintro Hz1201 Hleft HO
  ihave Hl1101 := (slot_join (1, 1, 0, 1) c (V m ρ 5 0 1 c)) $$ Hleft Hl1101
  ihave Hd1101 := (done_intro (1, 1, 0, 1) c (V m ρ 5 0 1 c)) $$ Hz1101 Hy1101 Hl1101
  iapply (wait_r1 m ρ K 2 6 rfl 0 1 c (slot_credit (1, 2, 0, 1)) (rest 24) (by decide)) $$ He Hr1201 HO
  iintro Hy1201 Hl1201 HO
  iapply (ld_slot c (1, 2, 0, 1) fullShare rfl rfl (V m ρ 6 0 1 c)) $$ Hl1201; iintro Hl1201
  ihave Hd1201 := (done_intro (1, 2, 0, 1) c (V m ρ 6 0 1 c)) $$ Hz1201 Hy1201 Hl1201
  iapply (ld_q c (row 2 c) (qd 0 1) (off10_2 c) (V m ρ 2 0 1 c)) $$ Hq201; iintro Hq201
  iapply (st_q c (row 2 c) (qd 0 1) (off10_2 c) (w := k0_pay35 (unsq (V m ρ 6 0 1 c))) (V m ρ 2 0 1 c) (fin m ρ 0 1 (row 2 c)) (pass_fin m ρ 6 2 rfl 0 1 c (row 2 c) (bk12 c))) $$ Hq201; iintro Hq201
  iapply (ret_step c _)
  iapply Hk $$ HO Hd1101 Hd1201 Hq201

/-- Part 39 of the body. -/
theorem part39 (c : Dev nD) (w7 w811 : BitVec 32) {Q : (Σ' (v872 : FVec F S512x128 .f32), Vec F S512x128 .f32) → sProp (MT nD τ sig Unit (Elt F) ℕ UU ℕ)} :
    env m ρ K ⊢ iprop(owesW c (rest 24) -∗
        Fl (1, 2, 1, 0) c -∗
        slotO (1, 1, 1, 0) c fullShare.right (V m ρ 5 1 0 c) -∗
        semVal (sendCell (1, 1, 1, 0) c) 0 -∗
        semVal (recvCell (1, 1, 1, 0) c) 0 -∗
        Rx (1, 2, 1, 0) c -∗
        hq c (row 2 c) (qd 1 0) (V m ρ 2 1 0 c) -∗
      (owesW c (rest 24) -∗ Done (1, 1, 1, 0) c -∗ Done (1, 2, 1, 0) c -∗ hq c (row 2 c) (qd 1 0) (V m ρ 2 1 0 c) -∗ Q ⟨k0_pay36 (unsq (V m ρ 6 1 0 c)), (V m ρ 2 1 0 c)⟩) -∗
      WP c (k0_part39 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w7 w811) Q) := by
  simp only [k0_part39_eq_skeleton]
  unfold k0_part39_skel
  simp only [Prog.lift, Prog.bind_op, Prog.bind_ret, Prog.pure_eq_ret]
  iintro #He HO Hf1210 Hl1110 Hz1110 Hy1110 Hr1210 Hq210 Hk
  iapply (wait_s2 m ρ K 1 0 c (slot_credit (1, 1, 1, 0)) (rest 24)) $$ He Hf1210 HO
  iintro Hz1210 Hleft HO
  ihave Hl1110 := (slot_join (1, 1, 1, 0) c (V m ρ 5 1 0 c)) $$ Hleft Hl1110
  ihave Hd1110 := (done_intro (1, 1, 1, 0) c (V m ρ 5 1 0 c)) $$ Hz1110 Hy1110 Hl1110
  iapply (wait_r1 m ρ K 2 6 rfl 1 0 c (slot_credit (1, 2, 1, 0)) (rest 24) (by decide)) $$ He Hr1210 HO
  iintro Hy1210 Hl1210 HO
  iapply (ld_slot c (1, 2, 1, 0) fullShare rfl rfl (V m ρ 6 1 0 c)) $$ Hl1210; iintro Hl1210
  ihave Hd1210 := (done_intro (1, 2, 1, 0) c (V m ρ 6 1 0 c)) $$ Hz1210 Hy1210 Hl1210
  iapply (ld_q c (row 2 c) (qd 1 0) (off12_2 c) (V m ρ 2 1 0 c)) $$ Hq210; iintro Hq210
  iapply (ret_step c _)
  iapply Hk $$ HO Hd1110 Hd1210 Hq210

/-- Part 40 of the body. -/
theorem part40 (c : Dev nD) (w5 : BitVec 32) {Q : (Vec F S1x1x1x512x128 .f32) → sProp (MT nD τ sig Unit (Elt F) ℕ UU ℕ)} :
    env m ρ K ⊢ iprop(hq c (row 2 c) (qd 1 0) (V m ρ 2 1 0 c) -∗
        owesW c (rest 24) -∗
        Fl (1, 2, 1, 1) c -∗
        slotO (1, 1, 1, 1) c fullShare.right (V m ρ 5 1 1 c) -∗
        semVal (sendCell (1, 1, 1, 1) c) 0 -∗
        semVal (recvCell (1, 1, 1, 1) c) 0 -∗
        Rx (1, 2, 1, 1) c -∗
      (hq c (row 2 c) (qd 1 0) (fin m ρ 1 0 (row 2 c)) -∗ owesW c (rest 24) -∗ Done (1, 1, 1, 1) c -∗ Done (1, 2, 1, 1) c -∗ Q ((unsq (V m ρ 6 1 1 c)))) -∗
      WP c (k0_part40 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 c w5 (k0_pay36 (unsq (V m ρ 6 1 0 c))) ((V m ρ 2 1 0 c))) Q) := by
  simp only [k0_part40_eq_skeleton]
  unfold k0_part40_skel
  simp only [Prog.lift, Prog.bind_op, Prog.bind_ret, Prog.pure_eq_ret]
  iintro #He Hq210 HO Hf1211 Hl1111 Hz1111 Hy1111 Hr1211 Hk
  iapply (st_q c (row 2 c) (qd 1 0) (off12_2 c) (w := k0_pay37 (k0_pay36 (unsq (V m ρ 6 1 0 c)))) (V m ρ 2 1 0 c) (fin m ρ 1 0 (row 2 c)) (pass_fin m ρ 6 2 rfl 1 0 c (row 2 c) (bk02 c))) $$ Hq210; iintro Hq210
  iapply (wait_s2 m ρ K 1 1 c (slot_credit (1, 1, 1, 1)) (rest 24)) $$ He Hf1211 HO
  iintro Hz1211 Hleft HO
  ihave Hl1111 := (slot_join (1, 1, 1, 1) c (V m ρ 5 1 1 c)) $$ Hleft Hl1111
  ihave Hd1111 := (done_intro (1, 1, 1, 1) c (V m ρ 5 1 1 c)) $$ Hz1111 Hy1111 Hl1111
  iapply (wait_r1 m ρ K 2 6 rfl 1 1 c (slot_credit (1, 2, 1, 1)) (rest 24) (by decide)) $$ He Hr1211 HO
  iintro Hy1211 Hl1211 HO
  iapply (ld_slot c (1, 2, 1, 1) fullShare rfl rfl (V m ρ 6 1 1 c)) $$ Hl1211; iintro Hl1211
  ihave Hd1211 := (done_intro (1, 2, 1, 1) c (V m ρ 6 1 1 c)) $$ Hz1211 Hy1211 Hl1211
  iapply (ret_step c _)
  iapply Hk $$ Hq210 HO Hd1111 Hd1211

end Cert.KernelIdealProof

end
-- ==== Proof.KernelIdealBody.lean ====
/-
# The kernel's body

The forty parts run one after the other: from what the launch hands a device to what it gives back.
-/
module

public import proofs.«01_k».proof.Proof.KernelIdealPartsA
public import proofs.«01_k».proof.Proof.KernelIdealPartsB
public import proofs.«01_k».proof.Proof.KernelIdealPartsC
public import proofs.«01_k».proof.Proof.KernelIdealPartsD

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × KIx → ℕ)

omit [FloatOps F] in
/-- One piece for each copy, written out. -/
theorem flat_cps (P : Cp → sProp 𝕄) : bigSep Finset.univ P = iprop(P (0, 0, 0, 0) ∗ P (0, 0, 0, 1) ∗ P (0, 0, 1, 0) ∗ P (0, 0, 1, 1) ∗ P (0, 1, 0, 0) ∗ P (0, 1, 0, 1) ∗ P (0, 1, 1, 0) ∗ P (0, 1, 1, 1) ∗ P (0, 2, 0, 0) ∗ P (0, 2, 0, 1) ∗ P (0, 2, 1, 0) ∗ P (0, 2, 1, 1) ∗ P (1, 0, 0, 0) ∗ P (1, 0, 0, 1) ∗ P (1, 0, 1, 0) ∗ P (1, 0, 1, 1) ∗ P (1, 1, 0, 0) ∗ P (1, 1, 0, 1) ∗ P (1, 1, 1, 0) ∗ P (1, 1, 1, 1) ∗ P (1, 2, 0, 0) ∗ P (1, 2, 0, 1) ∗ P (1, 2, 1, 0) ∗ P (1, 2, 1, 1)) := by
  rw [bigSep_univ_eq_bigSepL allCps (by decide) (by decide)]
  rfl

omit [FloatOps F] in
/-- One piece for each slot of a direction, written out. -/
theorem flat_dir (P : Fin 2 × Fin 3 × Fin 2 → sProp 𝕄) : bigSep Finset.univ P = iprop(P (0, 0, 0) ∗ P (0, 0, 1) ∗ P (0, 1, 0) ∗ P (0, 1, 1) ∗ P (0, 2, 0) ∗ P (0, 2, 1) ∗ P (1, 0, 0) ∗ P (1, 0, 1) ∗ P (1, 1, 0) ∗ P (1, 1, 1) ∗ P (1, 2, 0) ∗ P (1, 2, 1)) := by
  rw [bigSep_univ_eq_bigSepL [(0, 0, 0), (0, 0, 1), (0, 1, 0), (0, 1, 1), (0, 2, 0), (0, 2, 1), (1, 0, 0), (1, 0, 1), (1, 1, 0), (1, 1, 1), (1, 2, 0), (1, 2, 1)] (by decide) (by decide)]
  rfl

omit [FloatOps F] in
/-- The slots a barrier signal hands over, written out. -/
theorem slotsD_flat (d : Fin 2) (c : Dev nD) : (slotsD d c : sProp 𝕄) ⊢ iprop(slotE (0, 0, 0, d) c ∗ slotE (0, 0, 1, d) c ∗ slotE (0, 1, 0, d) c ∗ slotE (0, 1, 1, d) c ∗ slotE (0, 2, 0, d) c ∗ slotE (0, 2, 1, d) c ∗ slotE (1, 0, 0, d) c ∗ slotE (1, 0, 1, d) c ∗ slotE (1, 1, 0, d) c ∗ slotE (1, 1, 1, d) c ∗ slotE (1, 2, 0, d) c ∗ slotE (1, 2, 1, d) c) := by
  unfold slotsD
  rw [flat_dir]

/-- All parts in turn. -/
theorem part41 [∀ e, Nonempty (Elt F e)] (c : Dev nD) (W : Waits sig Unit) (Xh0 Xh1 Xh2 Xh3 Xo0 Xo1 Xo2 Xo3 : Vec F S512x512 .f32) {Q : (Σ' (d0 : Dev nD) (v901 : BitVec 32), Vec F S512x512 .f32) → sProp (MT nD τ sig Unit (Elt F) ℕ UU ℕ)} :
    env m ρ K ⊢ iprop(slotsD 0 c -∗
        slotsD 1 c -∗
        dutyTok ER (barCell (row 3 c)) 0 (0 : Fin 2) -∗
        dutyTok ER (barCell (row 1 c)) 0 (1 : Fin 2) -∗
        cred (tallyAt (barCell c) () 2) -∗
        atPos ER (barCell c) 0 (∅ : Finset (Fin 2)) 0 -∗
        owes (c : Thread nD τ) (O₀ c) W -∗
        (((c : Thread nD τ).loc cc0_stg0_0) ↦{fullShare} (xstg m ρ c)) -∗
        (((c : Thread nD τ).loc cc0_stg1_0) ↦{fullShare} (w1stg m ρ c)) -∗
        (((c : Thread nD τ).loc cc0_stg2_0) ↦{fullShare} (w2stg m ρ c)) -∗
        rowO hM c c Xh0 -∗
        rowO hM c (row 1 c) Xh1 -∗
        rowO hM c (row 2 c) Xh2 -∗
        rowO hM c (row 3 c) Xh3 -∗
        rowO oM c c Xo0 -∗
        rowO oM c (row 1 c) Xo1 -∗
        rowO oM c (row 2 c) Xo2 -∗
        rowO oM c (row 3 c) Xo3 -∗
        bigSep Finset.univ (fun x : Cp => iprop(Tk x c ∗ Rx x c)) -∗
      (∀ w : BitVec 32, owesW c (rest 24) -∗
          semVal (barCell c) 0 -∗
          (((c : Thread nD τ).loc cc0_stg0_0) ↦{fullShare} (xstg m ρ c)) -∗
          (((c : Thread nD τ).loc cc0_stg1_0) ↦{fullShare} (w1stg m ρ c)) -∗
          (((c : Thread nD τ).loc cc0_stg2_0) ↦{fullShare} (w2stg m ρ c)) -∗
          rowO hM c c (finRow m ρ c) -∗
          rowO hM c (row 1 c) (finRow m ρ (row 1 c)) -∗
          rowO hM c (row 2 c) (finRow m ρ (row 2 c)) -∗
          rowO hM c (row 3 c) (finRow m ρ (row 3 c)) -∗
          rowO oM c c (outRow m ρ c c) -∗
          rowO oM c (row 1 c) (outRow m ρ c (row 1 c)) -∗
          rowO oM c (row 2 c) (Xo2) -∗
          rowO oM c (row 3 c) (outRow m ρ c (row 3 c)) -∗
          bigSep Finset.univ (fun x : Cp => Done x c) -∗ Q ⟨c, w, finRow m ρ (row 2 c)⟩) -∗
      WP c (k0_part41 xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part41_eq_skeleton]
  unfold k0_part41_skel
  simp only [Prog.lift, Prog.bind_op, Prog.bind_ret, Prog.pure_eq_ret]
  iintro #He Hsig0 Hsig1 Htb0 Htb1 Hcb Hpb HO Hx Hw1 Hw2 Hh0 Hh1 Hh2 Hh3 Ho0 Ho1 Ho2 Ho3 Hcps Hk
  ihave Hcps := (Entails.of_eq (flat_cps (fun x : Cp => iprop(Tk x c ∗ Rx x c)))) $$ Hcps
  icases Hcps with ⟨⟨Ht0000, Hr0000⟩, ⟨Ht0001, Hr0001⟩, ⟨Ht0010, Hr0010⟩, ⟨Ht0011, Hr0011⟩, ⟨Ht0100, Hr0100⟩, ⟨Ht0101, Hr0101⟩, ⟨Ht0110, Hr0110⟩, ⟨Ht0111, Hr0111⟩, ⟨Ht0200, Hr0200⟩, ⟨Ht0201, Hr0201⟩, ⟨Ht0210, Hr0210⟩, ⟨Ht0211, Hr0211⟩, ⟨Ht1000, Hr1000⟩, ⟨Ht1001, Hr1001⟩, ⟨Ht1010, Hr1010⟩, ⟨Ht1011, Hr1011⟩, ⟨Ht1100, Hr1100⟩, ⟨Ht1101, Hr1101⟩, ⟨Ht1110, Hr1110⟩, ⟨Ht1111, Hr1111⟩, ⟨Ht1200, Hr1200⟩, ⟨Ht1201, Hr1201⟩, ⟨Ht1210, Hr1210⟩, ⟨Ht1211, Hr1211⟩⟩
  iapply (call_step c _ _)
  iapply (part1 m ρ K c W) $$ He Hsig0 Hsig1 Htb0 Htb1 Hcb Hpb HO Hx Hw1 Hh0
  iintro %w2 %w5 %w7 HO Hzb HsD0 HsD1 Hx Hw1 Hq000 Hq010 Hq001 Hq011
  dsimp only
  ihave HsD0 := (slotsD_flat 0 (bk 0 3 c)) $$ HsD0
  icases HsD0 with ⟨Hs0000, Hs0010, Hs0100, Hs0110, Hs0200, Hs0210, Hs1000, Hs1010, Hs1100, Hs1110, Hs1200, Hs1210⟩
  ihave HsD1 := (slotsD_flat 1 (bk 1 3 c)) $$ HsD1
  icases HsD1 with ⟨Hs0001, Hs0011, Hs0101, Hs0111, Hs0201, Hs0211, Hs1001, Hs1011, Hs1101, Hs1111, Hs1201, Hs1211⟩
  iapply (call_step c _ _)
  iapply (part2 m ρ K c _ _ _) $$ He Hs0000 Ht0000 HO Hq000 Hs0001 Ht0001 Hq001
  iintro HO Hf0000 Hf0001
  iapply (call_step c _ _)
  iapply (part3 m ρ K c Xh1 _ _) $$ He Hs0010 Ht0010 HO Hq010 Hs0011 Ht0011 Hq011 Hx Hw1 Hh1
  iintro HO Hf0010 Hf0011 Hx Hw1 Hh1
  iapply (call_step c _ _)
  iapply (part4 m ρ K c Xh1 Xh3 _) $$ He Hh1 Hx Hw1 Hh3 HO Hf0000
  iintro %w97 %w100 Hq100 Hq110 Hq101 Hq111 Hx Hw1 Hq300 Hq310 Hq301 Hq311 HO Hq000 Hz0000
  dsimp only
  iapply (call_step c _ _)
  iapply (part5 m ρ K c _ _) $$ He HO Hr0000 Hq300 Hz0000
  iintro HO Hq300 Hd0000
  iapply (call_step c _ _)
  iapply (part6 m ρ K c _ _) $$ He Hs0100 Ht0100 HO Hq300 Hf0001 Hr0001 Hq101
  iintro HO Hf0100 Hq001 Hq101 Hd0001
  dsimp only
  iapply (call_step c _ _)
  iapply (part7 m ρ K c _ _) $$ He Hq101 Hs0101 Ht0101 HO Hf0010
  iintro HO Hf0101 Hq010 Hz0010
  iapply (call_step c _ _)
  iapply (part8 m ρ K c _ _) $$ He HO Hr0010 Hq310 Hz0010
  iintro HO Hq310 Hd0010
  iapply (call_step c _ _)
  iapply (part9 m ρ K c _ _) $$ He Hs0110 Ht0110 HO Hq310 Hf0011 Hr0011 Hq111
  iintro %w218 HO Hf0110 Hq011 Hq111 Hd0011
  dsimp only
  iapply (call_step c _ _)
  iapply (part10 m ρ K c _ _ _ _) $$ He Hq111 Hs0111 Ht0111 HO Hx Hw1 Hh2
  iintro %w248 HO Hf0111 Hx Hw1 Hq200 Hq210 Hq201 Hq211
  iapply (call_step c _ _)
  iapply (part11 m ρ K c _ _ _) $$ He HO Hf0100 Hr0100 Hq200
  iintro %w250 %w253 HO Hq300 Hz0100 Hy0100 Hl0100 Hq200
  dsimp only
  iapply (call_step c _ _)
  iapply (part12 m ρ K c _ _) $$ He Hl0100 Hz0100 Hy0100 Hq200 Hs0200 Ht0200 HO Hf0101
  iintro Hd0100 HO Hf0200 Hq101 Hz0101
  iapply (call_step c _ _)
  iapply (part13 m ρ K c _ _) $$ He HO Hr0101 Hq201 Hz0101
  iintro HO Hq201 Hd0101
  iapply (call_step c _ _)
  iapply (part14 m ρ K c _ _) $$ He Hs0201 Ht0201 HO Hq201 Hf0110 Hr0110 Hq210
  iintro HO Hf0201 Hq310 Hq210 Hd0110
  iapply (call_step c _ _)
  iapply (part15 m ρ K c _ _) $$ He Hq210 Hs0210 Ht0210 HO Hf0111
  iintro HO Hf0210 Hq111 Hz0111
  iapply (call_step c _ _)
  iapply (part16 m ρ K c _ _) $$ He HO Hr0111 Hq211 Hz0111
  iintro HO Hq211 Hd0111
  iapply (call_step c _ _)
  iapply (part17 m ρ K c _ _) $$ He Hs0211 Ht0211 HO Hq211 Hf0200 Hr0200 Hq100
  iintro %w388 %w391 HO Hf0211 Hq200 Hz0200 Hy0200 Hl0200 Hq100
  dsimp only
  iapply (call_step c _ _)
  iapply (part18 m ρ K c _ _) $$ He Hl0200 Hz0200 Hy0200 Hq100 Hs1000 Ht1000 HO
  iintro Hd0200 HO Hf1000
  iapply (call_step c _ _)
  iapply (part19 m ρ K c _ _) $$ He HO Hf0201 Hr0201 Hq301
  iintro HO Hq201 Hq301 Hd0201
  iapply (call_step c _ _)
  iapply (part20 m ρ K c _ _) $$ He Hs1001 Ht1001 HO Hq301 Hf0210 Hr0210 Hq110
  iintro HO Hf1001 Hq210 Hz0210 Hy0210 Hl0210 Hq110
  iapply (call_step c _ _)
  iapply (part21 m ρ K c _ _) $$ He Hl0210 Hz0210 Hy0210 Hq110 Hs1010 Ht1010 HO Hf0211
  iintro Hd0210 HO Hf1010 Hq211 Hz0211
  iapply (call_step c _ _)
  iapply (part22 m ρ K c _ _) $$ He HO Hr0211 Hq311 Hz0211
  iintro HO Hq311 Hd0211
  iapply (call_step c _ _)
  iapply (part23 m ρ K c _ _) $$ He Hs1011 Ht1011 HO Hq311 Hf1000 Hr1000
  iintro %w526 %w529 HO Hf1011 Hq100 Hz1000 Hy1000 Hl1000
  dsimp only
  iapply (call_step c _ _)
  iapply (part24 m ρ K c _ _) $$ He Hs1100 Ht1100 HO Hl1000 Hq000
  iintro HO Hl1000 Hf1100 Hq000
  iapply (call_step c _ _)
  iapply (part25 m ρ K c _) $$ He HO Hf1001 Hr1001 Hs1101 Ht1101
  iintro HO Hq301 Hz1001 Hy1001 Hl1001 Hf1101
  iapply (call_step c _ _)
  iapply (part26 m ρ K c _ _) $$ He Hq001 HO Hf1010 Hr1010
  iintro Hq001 HO Hq110 Hz1010 Hy1010 Hl1010
  iapply (call_step c _ _)
  iapply (part27 m ρ K c _ _) $$ He Hs1110 Ht1110 HO Hl1010 Hq010 Hf1011
  iintro HO Hl1010 Hf1110 Hq010 Hq311 Hz1011
  iapply (call_step c _ _)
  iapply (part28 m ρ K c _ _ _) $$ He HO Hr1011 Hs1111 Ht1111 Hq011
  iintro %w646 HO Hy1011 Hl1011 Hf1111 Hq011
  iapply (call_step c _ _)
  iapply (part29 m ρ K c Xo0 _ _) $$ He Hq000 Hq010 Hq001 Hq011 Hw2 Ho0 HO Hf1100 Hl1000 Hz1000 Hy1000
  iintro %w657 %w660 Hh0 Hw2 Ho0 HO Hz1100 Hd1000
  dsimp only
  iapply (call_step c _ _)
  iapply (part30 m ρ K c _ _) $$ He HO Hr1100 Hs1200 Ht1200 Hq300
  iintro HO Hy1100 Hl1100 Hf1200 Hq300
  iapply (call_step c _ _)
  iapply (part31 m ρ K c _) $$ He Hq300 HO Hf1101 Hl1001 Hz1001 Hy1001 Hr1101
  iintro Hq300 HO Hz1101 Hd1001 Hy1101 Hl1101
  iapply (call_step c _ _)
  iapply (part32 m ρ K c _ _) $$ He Hs1201 Ht1201 HO Hl1101 Hq101
  iintro HO Hl1101 Hf1201 Hq101
  iapply (call_step c _ _)
  iapply (part33 m ρ K c _) $$ He HO Hf1110 Hl1010 Hz1010 Hy1010 Hr1110 Hs1210 Ht1210
  iintro HO Hz1110 Hd1010 Hy1110 Hl1110 Hf1210
  iapply (call_step c _ _)
  iapply (part34 m ρ K c _ _) $$ He Hl1110 Hq310 HO Hf1111 Hl1011 Hz1011 Hy1011
  iintro Hl1110 Hq310 HO Hz1111 Hd1011
  iapply (call_step c _ _)
  iapply (part35 m ρ K c _ _ _) $$ He HO Hr1111 Hs1211 Ht1211 Hq111 Hq100 Hq110 Hq101
  iintro %w787 HO Hy1111 Hl1111 Hf1211 Hh1
  dsimp only
  iapply (call_step c _ _)
  iapply (part36 m ρ K c Xo1 Xo3 _ _) $$ He Hw2 Ho1 Hq300 Hq310 Hq301 Hq311 Ho3
  iintro %w811 %w814 Hw2 Ho1 Hh3 Ho3
  dsimp only
  iapply (call_step c _ _)
  iapply (part37 m ρ K c _ _) $$ He HO Hf1200 Hl1100 Hz1100 Hy1100 Hr1200 Hq200
  iintro HO Hd1100 Hd1200 Hq200
  iapply (call_step c _ _)
  iapply (part38 m ρ K c _ _) $$ He HO Hf1201 Hl1101 Hz1101 Hy1101 Hr1201 Hq201
  iintro HO Hd1101 Hd1201 Hq201
  iapply (call_step c _ _)
  iapply (part39 m ρ K c _ _) $$ He HO Hf1210 Hl1110 Hz1110 Hy1110 Hr1210 Hq210
  iintro HO Hd1110 Hd1210 Hq210
  dsimp only
  iapply (call_step c _ _)
  iapply (part40 m ρ K c _) $$ He Hq210 HO Hf1211 Hl1111 Hz1111 Hy1111 Hr1211
  iintro Hq210 HO Hd1111 Hd1211
  iapply (ld_q c (row 2 c) (qd 1 1) (off14_2 c) (V m ρ 2 1 1 c)) $$ Hq211; iintro Hq211
  iapply (st_q c (row 2 c) (qd 1 1) (off14_2 c) (w := k0_pay38 ((unsq (V m ρ 6 1 1 c)))) (V m ρ 2 1 1 c) (fin m ρ 1 1 (row 2 c)) (pass_fin m ρ 6 2 rfl 1 1 c (row 2 c) (bk12 c))) $$ Hq211; iintro Hq211
  ihave Hh2 := (row_fin m ρ c (row 2 c)) $$ Hq200 Hq210 Hq201 Hq211
  iapply (ld_row c (row 2 c) (off6_2 c) (finRow m ρ (row 2 c))) $$ Hh2; iintro Hh2
  ihave Hdone := (Entails.of_eq (flat_cps (fun x : Cp => Done x c)).symm) $$ [Hd0000 Hd0001 Hd0010 Hd0011 Hd0100 Hd0101 Hd0110 Hd0111 Hd0200 Hd0201 Hd0210 Hd0211 Hd1000 Hd1001 Hd1010 Hd1011 Hd1100 Hd1101 Hd1110 Hd1111 Hd1200 Hd1201 Hd1210 Hd1211]
  · isplitl [Hd0000]; · iexact Hd0000
    isplitl [Hd0001]; · iexact Hd0001
    isplitl [Hd0010]; · iexact Hd0010
    isplitl [Hd0011]; · iexact Hd0011
    isplitl [Hd0100]; · iexact Hd0100
    isplitl [Hd0101]; · iexact Hd0101
    isplitl [Hd0110]; · iexact Hd0110
    isplitl [Hd0111]; · iexact Hd0111
    isplitl [Hd0200]; · iexact Hd0200
    isplitl [Hd0201]; · iexact Hd0201
    isplitl [Hd0210]; · iexact Hd0210
    isplitl [Hd0211]; · iexact Hd0211
    isplitl [Hd1000]; · iexact Hd1000
    isplitl [Hd1001]; · iexact Hd1001
    isplitl [Hd1010]; · iexact Hd1010
    isplitl [Hd1011]; · iexact Hd1011
    isplitl [Hd1100]; · iexact Hd1100
    isplitl [Hd1101]; · iexact Hd1101
    isplitl [Hd1110]; · iexact Hd1110
    isplitl [Hd1111]; · iexact Hd1111
    isplitl [Hd1200]; · iexact Hd1200
    isplitl [Hd1201]; · iexact Hd1201
    isplitl [Hd1210]; · iexact Hd1210
    iexact Hd1211
  iapply (ret_step c _)
  iapply Hk $$ %_ HO Hzb Hx Hw1 Hw2 Hh0 Hh1 Hh2 Hh3 Ho0 Ho1 Ho2 Ho3 Hdone

/-- The body: from what the launch hands a device, with any contents of the partial-sum buffer and of the result, to the
    finished rows and the result. -/
theorem body_sound [∀ e, Nonempty (Elt F e)] (c : Dev nD) (W : Waits sig Unit) (Xh0 Xh1 Xh2 Xh3 Xo0 Xo1 Xo2 Xo3 : Vec F S512x512 .f32) {Q : PUnit → sProp (MT nD τ sig Unit (Elt F) ℕ UU ℕ)} :
    env m ρ K ⊢ iprop(slotsD 0 c -∗
        slotsD 1 c -∗
        dutyTok ER (barCell (row 3 c)) 0 (0 : Fin 2) -∗
        dutyTok ER (barCell (row 1 c)) 0 (1 : Fin 2) -∗
        cred (tallyAt (barCell c) () 2) -∗
        atPos ER (barCell c) 0 (∅ : Finset (Fin 2)) 0 -∗
        owes (c : Thread nD τ) (O₀ c) W -∗
        (((c : Thread nD τ).loc cc0_stg0_0) ↦{fullShare} (xstg m ρ c)) -∗
        (((c : Thread nD τ).loc cc0_stg1_0) ↦{fullShare} (w1stg m ρ c)) -∗
        (((c : Thread nD τ).loc cc0_stg2_0) ↦{fullShare} (w2stg m ρ c)) -∗
        rowO hM c c Xh0 -∗
        rowO hM c (row 1 c) Xh1 -∗
        rowO hM c (row 2 c) Xh2 -∗
        rowO hM c (row 3 c) Xh3 -∗
        rowO oM c c Xo0 -∗
        rowO oM c (row 1 c) Xo1 -∗
        rowO oM c (row 2 c) Xo2 -∗
        rowO oM c (row 3 c) Xo3 -∗
        bigSep Finset.univ (fun x : Cp => iprop(Tk x c ∗ Rx x c)) -∗
      (owesW c (rest 24) -∗
          semVal (barCell c) 0 -∗
          (((c : Thread nD τ).loc cc0_stg0_0) ↦{fullShare} (xstg m ρ c)) -∗
          (((c : Thread nD τ).loc cc0_stg1_0) ↦{fullShare} (w1stg m ρ c)) -∗
          (((c : Thread nD τ).loc cc0_stg2_0) ↦{fullShare} (w2stg m ρ c)) -∗
          rowO hM c c (finRow m ρ c) -∗
          rowO hM c (row 1 c) (finRow m ρ (row 1 c)) -∗
          rowO hM c (row 2 c) (finRow m ρ (row 2 c)) -∗
          rowO hM c (row 3 c) (finRow m ρ (row 3 c)) -∗
          rowO oM c c (outRow m ρ c c) -∗
          rowO oM c (row 1 c) (outRow m ρ c (row 1 c)) -∗
          rowO oM c (row 2 c) (outRow m ρ c (row 2 c)) -∗
          rowO oM c (row 3 c) (outRow m ρ c (row 3 c)) -∗
          bigSep Finset.univ (fun x : Cp => Done x c) -∗ Q ⟨⟩) -∗
      WP c (cc0_body xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6) Q) := by
  simp only [cc0_body_eq_skeleton]
  unfold cc0_body_skel
  simp only [Prog.lift, Prog.bind_op, Prog.bind_ret, Prog.pure_eq_ret]
  iintro #He Hsig0 Hsig1 Htb0 Htb1 Hcb Hpb HO Hx Hw1 Hw2 Hh0 Hh1 Hh2 Hh3 Ho0 Ho1 Ho2 Ho3 Hcps Hk
  iapply (call_step c _ _)
  iapply (part41 m ρ K c W Xh0 Xh1 Xh2 Xh3 Xo0 Xo1 Xo2 Xo3) $$ He Hsig0 Hsig1 Htb0 Htb1 Hcb Hpb HO Hx Hw1 Hw2 Hh0 Hh1 Hh2 Hh3 Ho0 Ho1 Ho2 Ho3 Hcps
  iintro %w HO Hzb Hx Hw1 Hw2 Hh0 Hh1 Hh2 Hh3 Ho0 Ho1 Ho2 Ho3 Hdone
  dsimp only
  iapply (ld_w2 c (w2stg m ρ c)) $$ Hw2; iintro Hw2
  iapply (ld_row c (row 2 c) (off6_2 c) (Xo2)) $$ Ho2; iintro Ho2
  iapply (st_row c (row 2 c) (off6_2 c) (w := k0_pay1 (finRow m ρ (row 2 c)) (w2stg m ρ c)) (Xo2) (outRow m ρ c (row 2 c)) rfl) $$ Ho2; iintro Ho2
  iapply (ret_step c _)
  iapply Hk $$ HO Hzb Hx Hw1 Hw2 Hh0 Hh1 Hh2 Hh3 Ho0 Ho1 Ho2 Ho3 Hdone

end Cert.KernelIdealProof

end
-- ==== Proof.KernelIdealLaunch.lean ====
/-
# What the launch deals each device

The ghost state of the ring's cells is funded at launch, the cells' invariants are allocated for all devices at once,
and each device is handed the tokens of the duties it pays: its neighbours' barriers, its own send cells, and the
receive cells of the devices it sends to. What all devices owe a cell adds up to the credit its owner waits with.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Pieces over the cells of a device -/

omit [FloatOps F] in
theorem bigSep_two (Φ : Fin 2 → sProp 𝕄) : bigSep Finset.univ Φ = iprop(Φ 0 ∗ Φ 1) := by
  rw [bigSep_univ_eq_bigSepL [0, 1] (by decide) (by decide), bigSepL_cons_cons, bigSepL_singleton]
  rfl

omit [FloatOps F] in
/-- One piece for each cell of a device: the barrier's, the send cells' and the receive cells'. -/
theorem bigSep_cells (Φ : KIx → sProp 𝕄) : bigSep Finset.univ Φ
    = iprop(Φ none ∗ (bigSep Finset.univ fun x : Cp => Φ (some (0, x))) ∗ bigSep Finset.univ fun x : Cp => Φ (some (1, x))) := by
  rw [bigSep_univ_equiv ((Equiv.sumComm PUnit.{1} (Fin 2 × Cp)).trans (Equiv.optionEquivSumPUnit (Fin 2 × Cp)).symm) Φ, bigSep_univ_sum, bigSep_univ_prod, bigSep_two]
  rw [show (Finset.univ : Finset PUnit.{1}) = {PUnit.unit} from rfl, bigSep_singleton]
  rfl

/-! ## The launch's ghost state -/

theorem kcell_injective : Function.Injective (kcell : Dev nD × KIx → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-- A duty token for every cell and each of the two duties it may have. -/
abbrev tokOf (x : (Dev nD × KIx) × Fin 2) : GSem nD τ sig × ℕ × Fin 2 := (kcell x.1, 0, x.2)
theorem tokOf_injective : Function.Injective (tokOf : (Dev nD × KIx) × Fin 2 → GSem nD τ sig × ℕ × Fin 2) := by
  rintro ⟨k, d⟩ ⟨k', d'⟩ h
  have h1 : kcell k = kcell k' := congrArg Prod.fst h
  have h2 : d = d' := congrArg (fun x : GSem nD τ sig × ℕ × Fin 2 => x.2.2) h
  rw [kcell_injective h1, h2]
def ringToks : Finset (GSem nD τ sig × ℕ × Fin 2) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun k : KIx => bigSep Finset.univ fun d : Fin 2 => dutyTok ER (kcell (c, k)) 0 d

/-- What the launch deals device `c`. -/
def G (c : Dev nD) : sProp 𝕄 :=
  iprop((bigSep Finset.univ fun k : KIx => roundState ER (ringRd m ρ) (kcell (c, k)) 0)
    ∗ (bigSep Finset.univ fun k : KIx => iprop(atPos ER (kcell (c, k)) 0 (∅ : Finset (Fin 2)) 0 ∗ reached ER (kcell (c, k)) 0)) ∗ toks c)

/-- What stays with device `c`: its places at its cells, and the tokens of the duties it pays. -/
def linear (c : Dev nD) : sProp 𝕄 :=
  iprop(atPos ER (barCell c) 0 (∅ : Finset (Fin 2)) 0 ∗ dutyTok ER (barCell (row 3 c)) 0 (0 : Fin 2) ∗ dutyTok ER (barCell (row 1 c)) 0 (1 : Fin 2)
    ∗ (bigSep Finset.univ fun x : Cp => Tk x c) ∗ bigSep Finset.univ fun x : Cp => atPos ER (recvCell x c) 0 (∅ : Finset (Fin 2)) 0)

/-- What the global step makes of it. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]
    rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

omit [FloatOps F] in
/-- The transfer semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun x : Cp => semVal (sendCell x c) 0) ∗ bigSep Finset.univ fun x : Cp => semVal (recvCell x c) 0) := by
  unfold Pipeline.ownSems0
  rw [bigSep_univ_prod, bigSep_two]
omit [FloatOps F] in
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KIx => semVal (kcell (c, k)) 0 : sProp 𝕄) := by
  have e : (bigSep Finset.univ fun k : KIx => semVal (kcell (c, k)) 0 : sProp 𝕄)
      = iprop(semVal (barCell c) 0 ∗ (bigSep Finset.univ fun x : Cp => semVal (sendCell x c) 0) ∗ bigSep Finset.univ fun x : Cp => semVal (recvCell x c) 0) := bigSep_cells _
  rw [ownSems0_eq, unscopedSems0_eq, e]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KIx => iprop(∃ κ : ℕ, cellInv ER (ringRd m ρ) κ (kcell (c, k))))
          ∗ (bigSep Finset.univ fun k : KIx => iprop(atPos ER (kcell (c, k)) 0 (∅ : Finset (Fin 2)) 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KIx => semVal (kcell (c, k)) 0) ∗ bigSep Finset.univ fun k : KIx => roundState ER (ringRd m ρ) (kcell (c, k)) 0)
      ⊢ (|={Set.univ}=> bigSep Finset.univ fun k : KIx => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Moving every device three places on. -/
def rowEquiv : Dev nD ≃ Dev nD := ⟨row 3, row 1, by decide, by decide⟩

omit [FloatOps F] in
/-- The tokens of a device's cells that some device pays with. -/
theorem toks_flat (c : Dev nD) : (toks c : sProp 𝕄) ⊢ iprop(dutyTok ER (barCell c) 0 (0 : Fin 2) ∗ dutyTok ER (barCell c) 0 (1 : Fin 2)
    ∗ (bigSep Finset.univ fun x : Cp => dutyTok ER (sendCell x c) 0 (0 : Fin 2)) ∗ bigSep Finset.univ fun x : Cp => dutyTok ER (recvCell x c) 0 (0 : Fin 2)) := by
  have h (k : KIx) : (bigSep Finset.univ fun d : Fin 2 => dutyTok ER (kcell (c, k)) 0 d : sProp 𝕄) ⊢ dutyTok ER (kcell (c, k)) 0 (0 : Fin 2) :=
    bigSep_elim (Finset.mem_univ 0)
  unfold toks
  rw [bigSep_cells, bigSep_two]
  iintro ⟨⟨H0, H1⟩, HS, HV⟩
  isplitl [H0]; · iexact H0
  isplitl [H1]; · iexact H1
  isplitl [HS]
  · iapply (show (bigSep Finset.univ fun x : Cp => bigSep Finset.univ fun d : Fin 2 => dutyTok ER (kcell (c, some (0, x))) 0 d : sProp 𝕄)
      ⊢ bigSep Finset.univ fun x : Cp => dutyTok ER (sendCell x c) 0 (0 : Fin 2) from bigSep_mono fun x _ => h (some (0, x))) $$ HS
  · iapply (show (bigSep Finset.univ fun x : Cp => bigSep Finset.univ fun d : Fin 2 => dutyTok ER (kcell (c, some (1, x))) 0 d : sProp 𝕄)
      ⊢ bigSep Finset.univ fun x : Cp => dutyTok ER (recvCell x c) 0 (0 : Fin 2) from bigSep_mono fun x _ => h (some (1, x))) $$ HV

/-- The tokens device `c` pays with. -/
def payToks (c : Dev nD) : sProp 𝕄 := iprop(dutyTok ER (barCell (row 3 c)) 0 (0 : Fin 2) ∗ dutyTok ER (barCell (row 1 c)) 0 (1 : Fin 2)
    ∗ (bigSep Finset.univ fun x : Cp => dutyTok ER (sendCell x c) 0 (0 : Fin 2)) ∗ bigSep Finset.univ fun x : Cp => dutyTok ER (recvCell x (bk (dirOf x) 3 c)) 0 (0 : Fin 2))

/-- Each copy's receive cell, seen from the device that sends to it. -/
def recvEquiv : Dev nD × Cp ≃ Dev nD × Cp :=
  ⟨fun y => (bk (dirOf y.2) 3 y.1, y.2), fun y => (bk (dirOf y.2) 1 y.1, y.2),
    fun y => Prod.ext (bk_one_three _ _) rfl, fun y => Prod.ext (bk_three_one _ _) rfl⟩

omit [FloatOps F] in
theorem recv_around : (bigSep Finset.univ fun c : Dev nD => bigSep Finset.univ fun x : Cp => (dutyTok ER (recvCell x c) 0 (0 : Fin 2) : sProp 𝕄))
    = bigSep Finset.univ fun c : Dev nD => bigSep Finset.univ fun x : Cp => dutyTok ER (recvCell x (bk (dirOf x) 3 c)) 0 (0 : Fin 2) := by
  have h := bigSep_univ_equiv recvEquiv (fun y : Dev nD × Cp => (dutyTok ER (recvCell y.2 y.1) 0 (0 : Fin 2) : sProp 𝕄))
  rw [bigSep_univ_prod, bigSep_univ_prod] at h
  exact h

omit [FloatOps F] in
/-- The tokens dealt around the ring. -/
theorem toks_around : (bigSep Finset.univ fun c : Dev nD => (toks c : sProp 𝕄)) ⊢ bigSep Finset.univ fun c : Dev nD => payToks c := by
  refine (bigSep_mono fun c _ => toks_flat c).trans ?_
  unfold payToks
  rw [bigSep_sep', bigSep_sep', bigSep_sep', bigSep_sep', bigSep_sep', bigSep_sep',
    bigSep_univ_equiv rowEquiv (fun c : Dev nD => (dutyTok ER (barCell c) 0 (0 : Fin 2) : sProp 𝕄)),
    bigSep_univ_equiv rowEquiv.symm (fun c : Dev nD => (dutyTok ER (barCell c) 0 (1 : Fin 2) : sProp 𝕄)), recv_around]
  exact BI.Entails.refl _

omit [FloatOps F] in
theorem linear_intro (c : Dev nD) : iprop((bigSep Finset.univ fun k : KIx => atPos ER (kcell (c, k)) 0 (∅ : Finset (Fin 2)) 0) ∗ payToks c) ⊢ (linear c : sProp 𝕄) := by
  unfold linear payToks Tk
  rw [bigSep_cells, bigSep_sep', bigSep_sep']
  iintro ⟨⟨Hb, Hs, Hr⟩, H0, H1, HS, HV⟩
  isplitl [Hb]; · iexact Hb
  isplitl [H0]; · iexact H0
  isplitl [H1]; · iexact H1
  isplitr [Hr]
  · isplitl [HS]; · iexact HS
    isplitl [HV]; · iexact HV
    iexact Hs
  iexact Hr

theorem ghost_intro (K : Dev nD × KIx → ℕ) (c : Dev nD) : iprop(records m ρ K ∗ linear c) ⊢ G' m ρ c := by
  unfold G'
  iintro H
  iexists K
  iexact H

theorem regroup :
    (bigSep Finset.univ fun c : Dev nD => iprop((bigSep Finset.univ fun k : KIx => iprop(∃ κ : ℕ, cellInv ER (ringRd m ρ) κ (kcell (c, k))))
          ∗ (bigSep Finset.univ fun k : KIx => iprop(atPos ER (kcell (c, k)) 0 (∅ : Finset (Fin 2)) 0 ∗ reached ER (kcell (c, k)) 0)) ∗ toks c) : sProp 𝕄)
      ⊢ bigSep Finset.univ (G' m ρ) := by
  rw [bigSep_sep', bigSep_sep', ← bigSep_univ_prod (fun ck : Dev nD × KIx => iprop(∃ κ : ℕ, cellInv ER (ringRd m ρ) κ (kcell ck))),
    bigSep_congr (s := Finset.univ) (fun (c : Dev nD) _ => bigSep_sep' Finset.univ (fun k : KIx => (atPos ER (kcell (c, k)) 0 (∅ : Finset (Fin 2)) 0 : sProp 𝕄)) (fun k => reached ER (kcell (c, k)) 0)),
    bigSep_sep', ← bigSep_univ_prod (fun ck : Dev nD × KIx => (reached ER (kcell ck) 0 : sProp 𝕄))]
  iintro ⟨HI, ⟨Hat, #HR⟩, Htok⟩
  ihave HK := (BI.bigSep_exists_pi Finset.univ (fun (ck : Dev nD × KIx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : KIx => (atPos ER (kcell (c, k)) 0 (∅ : Finset (Fin 2)) 0 : sProp 𝕄)) payToks).symm).trans
      (bigSep_mono fun c _ => linear_intro c))
    isplitl [Hat]; · iexact Hat
    iexact Htk

/-- The global step: the own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq {x y : Cp} {a b : Dev nD} (h : recvCell x a = recvCell y b) : x = y ∧ a = b := by
  have h1 : a = b := Fin.ext (congrArg (fun g : GSem nD τ sig => g.1.1.val) h)
  have h2 : csem (some (1, x)) = csem (some (1, y)) := congrArg Prod.snd h
  have h3 := csem_injective h2
  exact ⟨congrArg Prod.snd (Option.some.inj h3), h1⟩
theorem recv_ne_bar (x : Cp) (a b : Dev nD) : recvCell x a ≠ barCell b := fun h => by
  have := congrArg Prod.snd h
  cases this

theorem owe_bar (d c : Dev nD) (l : List Cp) : owe d l (barCell c) () = 0 := by
  induction l with
  | nil => rfl
  | cons x l ih =>
    unfold owe
    rw [Pi.add_apply, Finsupp.add_apply, ih, tallyAt_ne_cell (fun h => recv_ne_bar _ _ _ h.symm), Finsupp.zero_apply, Nat.add_zero]

theorem owe_recv (d c : Dev nD) (x : Cp) (l : List Cp) : owe d l (recvCell x c) () = if d = bk (dirOf x) 1 c then l.count x * N else 0 := by
  induction l with
  | nil => unfold owe; rw [List.count_nil, Nat.zero_mul, ite_self]; rfl
  | cons y l ih =>
    unfold owe
    rw [Pi.add_apply, Finsupp.add_apply, ih, tallyAt_apply]
    by_cases hy : y = x
    · subst hy
      rw [List.count_cons_self]
      by_cases h : d = bk (dirOf y) 1 c
      · subst h
        rw [bk_three_one, if_pos rfl, if_pos ⟨rfl, rfl⟩, if_pos rfl, Nat.add_mul, Nat.one_mul]
      · rw [if_neg h, if_neg h, if_neg (fun h' : recvCell y c = recvCell y (bk (dirOf y) 3 d) ∧ () = () => h (by rw [(recv_eq h'.1).2, bk_one_three]))]
    · rw [List.count_cons_of_ne hy, if_neg (fun h' : recvCell x c = recvCell y (bk (dirOf y) 3 d) ∧ () = () => hy (recv_eq h'.1).1.symm), Nat.add_zero]

theorem count_all (x : Cp) : allCps.count x = 1 := by revert x; decide

/-- What device `d` owes device `c`'s barrier: a unit from each neighbour. -/
theorem owed_bar (d c : Dev nD) : O₀ d (barCell c) () = (if d = row 3 c then 1 else 0) + (if d = row 1 c then 1 else 0) := by
  have e1 : (row 1 d = c) ↔ d = row 3 c := by revert d c; decide
  have e3 : (row 3 d = c) ↔ d = row 1 c := by revert d c; decide
  unfold O₀
  rw [Pi.add_apply, Finsupp.add_apply, Pi.add_apply, Finsupp.add_apply, owe_bar, tallyAt_apply, tallyAt_apply, Nat.zero_add]
  congr 1
  · by_cases h : d = row 3 c
    · rw [if_pos h, if_pos ⟨bar_eq_iff.mpr (e1.mpr h).symm, rfl⟩]
    · rw [if_neg h, if_neg (fun h' => h (e1.mp (bar_eq_iff.mp h'.1).symm))]
  · by_cases h : d = row 1 c
    · rw [if_pos h, if_pos ⟨bar_eq_iff.mpr (e3.mpr h).symm, rfl⟩]
    · rw [if_neg h, if_neg (fun h' => h (e3.mp (bar_eq_iff.mp h'.1).symm))]

theorem owed_recv (d c : Dev nD) (x : Cp) : O₀ d (recvCell x c) () = if d = bk (dirOf x) 1 c then N else 0 := by
  unfold O₀
  rw [Pi.add_apply, Finsupp.add_apply, Pi.add_apply, Finsupp.add_apply, owe_recv, count_all, Nat.one_mul,
    tallyAt_ne_cell (recv_ne_bar _ _ _), tallyAt_ne_cell (recv_ne_bar _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (row 3 c) fun _ => 1, Finset.sum_ite_eq' Finset.univ (row 1 c) fun _ => 1, if_pos (Finset.mem_univ _), if_pos (Finset.mem_univ _)]

theorem launch_recv (c : Dev nD) (x : Cp) :
    tallyOn (recvCell x c) (launchCredit (Pipeline.owing O₀) 0 (recvCell x c)) = (tallyAt (recvCell x c) () N : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (bk (dirOf x) 1 c) fun _ => N,
    if_pos (Finset.mem_univ _)]

theorem recvSem_injective : Function.Injective (fun x : Cp => (SemLoc.dma (dsem 1 x) : SemLoc sig)) := fun x y h => by
  have h2 : csem (some (1, x)) = csem (some (1, y)) := h
  exact congrArg Prod.snd (Option.some.inj (csem_injective h2))

omit [FloatOps F] in
theorem creds (c : Dev nD) :
    (Pipeline.launchCred O₀ c : sProp 𝕄) ⊢ iprop(cred (tallyAt (barCell c) () 2) ∗ bigSep Finset.univ fun x : Cp => cred (tallyAt (recvCell x c) () N)) := by
  unfold Pipeline.launchCred
  rw [bigSep_univ_at _ (SemLoc.reg barS), launch_bar]
  refine sep_mono_right ?_
  have hs : Finset.univ.image (fun x : Cp => (SemLoc.dma (dsem 1 x) : SemLoc sig)) ⊆ Finset.univ.erase (SemLoc.reg barS) := fun sm h => by
    obtain ⟨x, -, rfl⟩ := Finset.mem_image.mp h
    exact Finset.mem_erase.mpr ⟨(fun h => by cases h), Finset.mem_univ _⟩
  refine (bigSep_subset hs).trans ?_
  rw [bigSep_image_of_injOn (recvSem_injective.injOn)]
  exact bigSep_mono fun x _ => show _ ⊢ (cred (tallyAt (recvCell x c) () N) : sProp 𝕄) by rw [← launch_recv c x]

end Cert.KernelIdealProof

end
-- ==== Proof.KernelIdealRun.lean ====
/-
# The run of the kernel

The body as the pipeline calls it, on the launch's ghost state; then the launch theorem at this kernel: every execution
terminates, each array ends at the contents computed, and every semaphore counter ends at zero.
-/
module

public import proofs.«01_k».proof.Proof.KernelIdealLaunch
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem elt_nonempty : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩ | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩ | .bf16 => ⟨FloatOps.ofBits .bf16 0⟩
  | .f16 => ⟨FloatOps.ofBits .f16 0⟩ | .f32 => ⟨FloatOps.ofBits .f32 0⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from: the records and levels, its places and tokens, and its credits. -/
def start (c : Dev nD) : sProp 𝕄 :=
  iprop((∃ K, records m ρ K ∗ linear c) ∗ cred (tallyAt (barCell c) () 2) ∗ (bigSep Finset.univ fun x : Cp => cred (tallyAt (recvCell x c) () N)) ∗ levAts L lv)

def Φ₀ (c : Dev nD) : sProp 𝕄 := iprop(start m ρ c ∗ Pipeline.scopedRest (Ix := Unit) (Name := ℕ) (U := UU) (Lvl := ℕ) (Val := Elt F) cfg0.spec c)
/-- After the body: every semaphore counter at zero, and the scratch buffers. -/
def Φ₁ (c : Dev nD) : sProp 𝕄 := iprop(unscopedSems0 c ∗ Pipeline.ownSems0 (Ix := Unit) (Name := ℕ) (U := UU) (Lvl := ℕ) (Val := Elt F) (τ := τ) osem c
  ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => w1stg m ρ c
    | ⟨2, _⟩ => w2stg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- A copy named by its direction first. -/
def dirEquiv : Fin 2 × (Fin 2 × Fin 3 × Fin 2) ≃ Cp :=
  ⟨fun y => (y.2.1, y.2.2.1, y.2.2.2, y.1), fun x => (x.2.2.2, x.1, x.2.1, x.2.2.1), fun _ => rfl, fun _ => rfl⟩

omit [FloatOps F] in
/-- The slots of the two phases are the slots of the two directions. -/
theorem slots_regroup (c : Dev nD) :
    iprop((bigSep Finset.univ fun y : Fin 3 × Fin 2 × Fin 2 => (slotE (0, y) c : sProp 𝕄)) ∗ bigSep Finset.univ fun y : Fin 3 × Fin 2 × Fin 2 => slotE (1, y) c)
      = iprop(slotsD 0 c ∗ slotsD 1 c) := by
  have h := bigSep_univ_equiv dirEquiv (fun x : Cp => (slotE x c : sProp 𝕄))
  rw [bigSep_univ_prod, bigSep_two, bigSep_univ_prod (fun y : Fin 2 × (Fin 2 × Fin 3 × Fin 2) => (slotE (dirEquiv y) c : sProp 𝕄)), bigSep_two] at h
  exact h

omit [FloatOps F] in
theorem slots_of_phases (c : Dev nD) : iprop((∃ X, owns (c : Thread nD τ) (commM 0) fullShare X) ∗ ∃ X, owns (c : Thread nD τ) (commM 1) fullShare X)
    ⊢ (iprop(slotsD 0 c ∗ slotsD 1 c) : sProp 𝕄) := by
  rw [← slots_regroup]
  exact BI.sep_mono (slots_split 0 c) (slots_split 1 c)

omit [FloatOps F] in
theorem phases_of_done [∀ e, Nonempty (Elt F e)] (c : Dev nD) : (bigSep Finset.univ fun x : Cp => Done x c)
    ⊢ (iprop(Pipeline.ownSems0 (Ix := Unit) (Name := ℕ) (U := UU) (Lvl := ℕ) (Val := Elt F) (τ := τ) osem c
        ∗ (∃ X, owns (c : Thread nD τ) (commM 0) fullShare X) ∗ ∃ X, owns (c : Thread nD τ) (commM 1) fullShare X) : sProp 𝕄) := by
  unfold Done
  rw [bigSep_sep', bigSep_sep', bigSep_univ_prod (fun x : Cp => (slotE x c : sProp 𝕄)), bigSep_two, ownSems0_eq]
  iintro ⟨HS, HV, H0, H1⟩
  isplitl [HS HV]
  · isplitl [HS]; · iexact HS
    iexact HV
  isplitl [H0]
  · iapply (slots_join 0 c) $$ H0
  · iapply (slots_join 1 c) $$ H1

omit [FloatOps F] in
theorem pair_cps (c : Dev nD) : iprop((bigSep Finset.univ fun x : Cp => Tk x c) ∗ (bigSep Finset.univ fun x : Cp => cred (tallyAt (recvCell x c) () N))
    ∗ bigSep Finset.univ fun x : Cp => atPos ER (recvCell x c) 0 (∅ : Finset (Fin 2)) 0) ⊢ (bigSep Finset.univ fun x : Cp => iprop(Tk x c ∗ Rx x c) : sProp 𝕄) := by
  unfold Rx
  rw [bigSep_sep', bigSep_sep']

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (xstg m ρ c) ∗ stg c cc0_stg1_0 (w1stg m ρ c) ∗ stg c cc0_stg2_0 (w2stg m ρ c)
    ∗ stg c cc0_stg3_0 (outAt m ρ c))

set_option maxRecDepth 4000 in
/-- The body, from what the pipeline hands it to what the pipeline takes back. -/
theorem sound_body (c : Dev nD) :
    bodyPre m ρ c
      ⊢ WP c (cc0_body xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6)
          (fun _ => bodyPost m ρ c) := by
  haveI := elt_nonempty (F := F)
  have hs0 (f : Buf (Elt F) ((c : Thread nD τ).loc cc0_scratch0)) : (((c : Thread nD τ).loc cc0_scratch0) ↦{fullShare} f : sProp 𝕄) ⊢ rows4 hM c (rowOf f) :=
    (Entails.of_eq (owns_whole (c : Thread nD τ) cc0_scratch0 fullShare f).symm).trans (rows_split hM c f)
  have ho (f : Buf (Elt F) ((c : Thread nD τ).loc cc0_stg3_0)) : (((c : Thread nD τ).loc cc0_stg3_0) ↦{fullShare} f : sProp 𝕄) ⊢ rows4 oM c (rowOf f) :=
    (Entails.of_eq (owns_whole (c : Thread nD τ) cc0_stg3_0 fullShare f).symm).trans (rows_split oM c f)
  have hs1 (f : Buf (Elt F) ((c : Thread nD τ).loc cc0_scratch1)) : (((c : Thread nD τ).loc cc0_scratch1) ↦{fullShare} f : sProp 𝕄) ⊢ owns (c : Thread nD τ) (commM 0) fullShare f :=
    Entails.of_eq (owns_whole (c : Thread nD τ) cc0_scratch1 fullShare f).symm
  have hs2 (f : Buf (Elt F) ((c : Thread nD τ).loc cc0_scratch2)) : (((c : Thread nD τ).loc cc0_scratch2) ↦{fullShare} f : sProp 𝕄) ⊢ owns (c : Thread nD τ) (commM 1) fullShare f :=
    Entails.of_eq (owns_whole (c : Thread nD τ) cc0_scratch2 fullShare f).symm
  have js0 (Z : Dev nD → Vec F S512x512 .f32) : rows4 hM c Z ⊢ (((c : Thread nD τ).loc cc0_scratch0) ↦{fullShare} (joinR Z : cc0_scratch0.ty.Contents (Elt F)) : sProp 𝕄) :=
    (rows_join hM c Z).trans (Entails.of_eq (owns_whole (c : Thread nD τ) cc0_scratch0 fullShare (joinR Z)))
  have jo (Z : Dev nD → Vec F S512x512 .f32) : rows4 oM c Z ⊢ (((c : Thread nD τ).loc cc0_stg3_0) ↦{fullShare} (joinR Z : cc0_stg3_0.ty.Contents (Elt F)) : sProp 𝕄) :=
    (rows_join oM c Z).trans (Entails.of_eq (owns_whole (c : Thread nD τ) cc0_stg3_0 fullShare (joinR Z)))
  have js1 (f : cc0_scratch1.ty.Contents (Elt F)) : (owns (c : Thread nD τ) (commM 0) fullShare f : sProp 𝕄) ⊢ (((c : Thread nD τ).loc cc0_scratch1) ↦{fullShare} f) :=
    Entails.of_eq (owns_whole (c : Thread nD τ) cc0_scratch1 fullShare f)
  have js2 (f : cc0_scratch2.ty.Contents (Elt F)) : (owns (c : Thread nD τ) (commM 1) fullShare f : sProp 𝕄) ⊢ (((c : Thread nD τ).loc cc0_scratch2) ↦{fullShare} f) :=
    Entails.of_eq (owns_whole (c : Thread nD τ) cc0_scratch2 fullShare f)
  unfold bodyPre Φ₀ start linear Dat.owesAt Pipeline.owesWithin
  rw [show (dats m ρ 0 c).owed t₀.castSucc = O₀ c from rfl, show cfg0.spec = spec0 from rfl, scopedRest0_eq]
  iintro ⟨⟨⟨⟨%K, #HR, Hpb, Htb0, Htb1, Htk, Hpr⟩, Hcb, Hcr, #Hlev⟩, ⟨%f0, Hs0⟩, ⟨%f1, Hs1⟩, ⟨%f2, Hs2⟩⟩, ⟨%W, %hW, HO⟩,
    ⟨%d0, %g0, %hg0, Hx⟩, ⟨%d1, %g1, %hg1, Hw1⟩, ⟨%d2, %g2, %hg2, Hw2⟩, ⟨%d3, %g3, %hg3, Ho⟩⟩
  have hx : g0 = xstg m ρ c := by rw [hg0]; unfold Dat.before; rw [if_pos (fetch0_0 t₀)]; rfl
  have hw1 : g1 = w1stg m ρ c := by rw [hg1]; unfold Dat.before; rw [if_pos (fetch0_1 t₀)]; rfl
  have hw2 : g2 = w2stg m ρ c := by rw [hg2]; unfold Dat.before; rw [if_pos (fetch0_2 t₀)]; rfl
  subst hx hw1 hw2
  ihave Hh := (hs0 f0) $$ Hs0
  ihave Hoo := (ho g3) $$ Ho
  ihave Hs1 := (hs1 f1) $$ Hs1
  ihave Hs2 := (hs2 f2) $$ Hs2
  ihave Hsl := (slots_of_phases (F := F) c) $$ [Hs1 Hs2]
  · isplitl [Hs1]
    · iexists _; iexact Hs1
    · iexists _; iexact Hs2
  icases Hsl with ⟨HD0, HD1⟩
  ihave Hcps := (pair_cps (F := F) c) $$ [Htk Hcr Hpr]
  · isplitl [Htk]; · iexact Htk
    isplitl [Hcr]; · iexact Hcr
    iexact Hpr
  unfold rows4
  icases Hh with ⟨Hh0, Hh1, Hh2, Hh3⟩
  icases Hoo with ⟨Ho0, Ho1, Ho2, Ho3⟩
  ihave He := (show iprop(records m ρ K ∗ levAts L lv) ⊢ env m ρ K by unfold env; exact BI.Entails.refl _) $$ []
  · isplitl; · iexact HR
    iexact Hlev
  iapply (body_sound m ρ K c W _ _ _ _ _ _ _ _) $$ He HD0 HD1 Htb0 Htb1 Hcb Hpb HO Hx Hw1 Hw2 Hh0 Hh1 Hh2 Hh3 Ho0 Ho1 Ho2 Ho3 Hcps
  iintro HO Hzb Hx Hw1 Hw2 Hh0 Hh1 Hh2 Hh3 Ho0 Ho1 Ho2 Ho3 Hdone
  ihave Hh := (js0 (finRow m ρ)) $$ [Hh0 Hh1 Hh2 Hh3]
  · unfold rows4
    isplitl [Hh0]; · iexact Hh0
    isplitl [Hh1]; · iexact Hh1
    isplitl [Hh2]; · iexact Hh2
    iexact Hh3
  ihave Ho := (jo (outRow m ρ c)) $$ [Ho0 Ho1 Ho2 Ho3]
  · unfold rows4
    isplitl [Ho0]; · iexact Ho0
    isplitl [Ho1]; · iexact Ho1
    isplitl [Ho2]; · iexact Ho2
    iexact Ho3
  ihave Hd := (phases_of_done (F := F) c) $$ Hdone
  icases Hd with ⟨Hsem, ⟨%X1, Hs1⟩, ⟨%X2, Hs2⟩⟩
  ihave Hs1 := (js1 X1) $$ Hs1
  ihave Hs2 := (js2 X2) $$ Hs2
  unfold bodyPost Φ₁ Dat.owesAt Pipeline.owesWithin owesW
  rw [show (dats m ρ 0 c).owed t₀.succ = 0 from rfl, show cfg0.spec = spec0 from rfl, scopedRest0_eq, unscopedSems0_eq]
  icases HO with ⟨%W', HO⟩
  isplitl [Hzb Hsem Hh Hs1 Hs2]
  · isplitl [Hzb]; · iexact Hzb
    isplitl [Hsem]; · iexact Hsem
    isplitl [Hh]; · iexists _; iexact Hh
    isplitl [Hs1]; · iexists X1; iexact Hs1
    iexists X2; iexact Hs2
  isplitl [HO]
  · iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists (outAt m ρ c); isplitr; · (ipureintro; rfl)
  iexact Ho

set_option maxRecDepth 4000 in
/-- The pipeline's body obligation on device `c`. -/
theorem body_obligation (c : Dev nD) : BodyObligation (dats (F := F) m ρ 0 c) (defs₀ (F := F)) 𝒱₀ () Set.univ := fun t => by
  rw [fin_N t]
  rw [bigSep_W, bigSep_W]
  simp only [stg_eq]
  have e1 : (defs₀ (F := F) Proc.tc 0 (t₀, cfg0.slots t₀) : Prog (TpuEff nD τ sig (Elt F) Λ₀ .tc) PUnit) = cc0_body xM (Memref.isWhole_whole _) w1M (Memref.isWhole_whole _) w2M (Memref.isWhole_whole _) oM (Memref.isWhole_whole _) hM (Memref.isWhole_whole _) (Memref.whole cc0_scratch1) (Memref.isWhole_whole _) (Memref.whole cc0_scratch2) (Memref.isWhole_whole _) cc0_scratch3 cc0_scratch4 cc0_scratch5 cc0_scratch6 := rfl
  have e2 : (dats m ρ 0 c).Φ t₀.castSucc = Φ₀ m ρ c := rfl
  have e3 : (dats m ρ 0 c).Φ t₀.succ = Φ₁ c := rfl
  have a0 : (dats m ρ 0 c).after (0 : Fin 4) t₀ = xstg m ρ c := rfl
  have a1 : (dats m ρ 0 c).after (1 : Fin 4) t₀ = w1stg m ρ c := rfl
  have a2 : (dats m ρ 0 c).after (2 : Fin 4) t₀ = w2stg m ρ c := rfl
  have a3 : (dats m ρ 0 c).after (3 : Fin 4) t₀ = outAt m ρ c := rfl
  have h := sound_body m ρ c
  unfold bodyPre bodyPost at h
  rw [e1, e2, e3, a0, a1, a2, a3]
  clear e1 e2 e3 a0 a1 a2 a3
  refine Eq.mp ?_ h
  congr 1

/-! ## The theorem's side conditions -/

theorem ownSemFacts : Pipeline.OwnSemFacts cfg0.spec osem := by decide +kernel

theorem share_eq (c : Dev nD) (w : Fin cfg0.W) : (dats m ρ 0 c).share w = fullShare := by unfold Dat.share; split <;> rfl

theorem O₀_pos {c : Dev nD} {g : GSem nD τ sig} {u : Unit} (h : 0 < O₀ c g u) :
    (∃ x, g = recvCell x (bk (dirOf x) 3 c)) ∨ ∃ b, g = barCell b := by
  unfold O₀ at h
  rw [Pi.add_apply, Finsupp.add_apply, Pi.add_apply, Finsupp.add_apply, tallyAt_apply, tallyAt_apply] at h
  by_cases h1 : g = barCell (row 1 c) ∧ u = ()
  · exact Or.inr ⟨_, h1.1⟩
  by_cases h3 : g = barCell (row 3 c) ∧ u = ()
  · exact Or.inr ⟨_, h3.1⟩
  rw [if_neg h1, if_neg h3, Nat.add_zero] at h
  obtain ⟨x, -, e⟩ := owe_pos h
  exact Or.inl ⟨x, e⟩

omit [FloatOps F] in
/-- The pipeline's own waits are below everything a device owes. -/
theorem mayWait_stage (c : Dev nD) (q : DmaSem sig) (hq : ∀ u, lv ((c : Thread nD τ), .dma q) u = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | ⟨b, rfl⟩ <;> exact Finset.mem_singleton_self _)
      (fun p hp => by rw [Finset.mem_singleton.mp hp]; exact Nat.le_of_eq (hq _))
      (fun g u hg => by
        rcases O₀_pos hg with ⟨x, rfl⟩ | ⟨b, rfl⟩
        · rw [lv_recv]; omega
        · rw [lv_bar]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun _ => by fin_cases w <;> fin_cases s <;> rfl) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  exact BI.Entails.refl _

/-! ## The run -/

/-- An array of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution terminates,
    with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are what they were; -/
theorem finalA_0 (c : Dev nD) : finalA m ρ c (0 : Fin 4) = m ((c : Thread nD τ).loc main_arg0) :=
  (dats (F := F) m ρ 0 c).arrAt_in (0 : Fin 4) rfl _
theorem finalA_1 (c : Dev nD) : finalA m ρ c (1 : Fin 4) = m ((c : Thread nD τ).loc main_arg1) :=
  (dats (F := F) m ρ 0 c).arrAt_in (1 : Fin 4) rfl _
theorem finalA_2 (c : Dev nD) : finalA m ρ c (2 : Fin 4) = m ((c : Thread nD τ).loc main_arg2) :=
  (dats (F := F) m ρ 0 c).arrAt_in (2 : Fin 4) rfl _

/-- The run leaves the arguments unchanged and every semaphore counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs (onTc (τ := τ) (main (F := F))) (s₀ m ρ)).mono (fun r h => ⟨fun c => ⟨(h.1 c (0 : Fin 4)).trans (finalA_0 m ρ c),
    (h.1 c (1 : Fin 4)).trans (finalA_1 m ρ c), (h.1 c (2 : Fin 4)).trans (finalA_2 m ρ c)⟩, h.2⟩) (run_main m ρ)

end Cert.KernelIdealProof

end
-- ==== Proof.KernelIdealValues.lean ====
/-
# The values, over the extended reals

What a device computes, read at an index: a partial product is a sum over the 512 columns the device holds; the
finished row is the sum of the four devices' partial products, so the sum over all 2048 columns, which is the
reference's first product; and the result's block is the reference's second product, at the columns the device holds.
Sums are regrouped; nothing else is used of the arithmetic.
-/
module

public import proofs.«01_k».proof.Proof.KernelIdealRun
public import proofs.«01_k».proof.Proof.Gen.ReferenceIdeal.Run
public import Idealize.ShloMosaic.Lib.Layout
public import Idealize.ShloMosaic.Lib.MatmulPlain
public import Idealize.ShloMosaic.Lib.StackMember

@[expose] public section

noncomputable section

namespace Cert.KernelIdealProof

open Cert.KernelIdeal Cert.KernelIdeal.Gen

open Idealize.ShloMosaic
open Idealize.ShloMosaic.TcCoe
open Idealize.ShloMosaic.ValueIdx
open Idealize.ShloMosaic.StackMember
open Idealize.SL.Sem
open scoped BigOperators

/-! ## The windows are the whole arrays -/

section Windows

variable {F : FTy → Type} [FloatOps F]
variable (m : (ℓ : Loc nD τ sig) → Buf (Elt F) ℓ) (ρ : Dev nD → PrngReg)

theorem xstg_arg (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem w1stg_arg (c : Dev nD) : w1stg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _
theorem w2stg_arg (c : Dev nD) : w2stg m ρ c = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

/-- The result array ends at the contents computed. -/
theorem finalA_3 (c : Dev nD) : finalA m ρ c (3 : Fin 4) = outAt m ρ c := by
  have ho : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans ho

end Windows

/-! ## The operations at an index -/

variable (m : (ℓ : Loc nD τ sig) → Buf (Elt Ideal) ℓ) (ρ : Dev nD → PrngReg)

/-- A product of two blocks. -/
theorem dot_apply (A B : FVec Ideal S512x512 .f32) (r l : Fin 512) :
    matmul dot_S512x512_S512x512_S512x512_1_0_0_1_n_n none A B (constant S512x512 .f32 0x00000000#32) (ix2 r l)
      = ∑ a : Fin 512, A (ix2 r a) * B (ix2 a l) := by
  rw [show dot_S512x512_S512x512_S512x512_1_0_0_1_n_n = DotDims.plain 512 512 512 from rfl]
  refine (Ideal.matmul_plain_apply none A B _ r l).trans ?_
  show Ideal.ofBits .f32 0x00000000#32 + _ = _
  rw [Ideal.ofBits_zero_f32, zero_add]

theorem pay2_apply (A B : Vec Ideal S512x512 .f32) (r l : Fin 512) : k0_pay2 A B (ix2 r l) = ∑ a : Fin 512, A (ix2 r a) * B (ix2 a l) := by
  unfold k0_pay2
  simp only [shapeCast_self]
  exact dot_apply A B r l
theorem pay1_apply (A B : Vec Ideal S512x512 .f32) (r l : Fin 512) : k0_pay1 A B (ix2 r l) = ∑ a : Fin 512, A (ix2 r a) * B (ix2 a l) := by
  unfold k0_pay1
  simp only [shapeCast_self]
  exact dot_apply A B r l

theorem addV_apply (X Y : Vec Ideal S512x128 .f32) (i : S512x128.Idx) : addV X Y i = X i + Y i := by
  have h : shapeCast S512x128 (unsq Y) shapeCasts_S1x1x1x512x128_S512x128 = Y := funext fun i => by
    show Y ((Shape.reshapeEquiv squeezes_S1x1x1x512x128_S512x128.numel_eq).symm (Shape.reshapeEquiv _ i)) = Y i
    exact congrArg Y (Equiv.symm_apply_apply _ i)
  unfold addV k0_pay6
  simp only [shapeCast_self]
  rw [h]
  rfl

/-! ## The finished row -/

/-- A sum over the devices, from one of them round the ring. -/
theorem sum_ring {M : Type} [AddCommMonoid M] (f : Dev nD → M) (d : Fin 2) (k : Dev nD) :
    f (bk d 1 k) + (f (bk d 2 k) + (f (bk d 3 k) + f k)) = ∑ c : Dev nD, f c := by
  rw [show (Finset.univ : Finset (Dev nD)) = {bk d 1 k, bk d 2 k, bk d 3 k, k} from by revert k d; decide,
    Finset.sum_insert (by revert k d; decide), Finset.sum_insert (by revert k d; decide), Finset.sum_insert (by revert k d; decide), Finset.sum_singleton]

/-- A finished quarter is the sum of the devices' partial products. -/
theorem fin_apply (j d : Fin 2) (k : Dev nD) (y : S512x128.Idx) :
    fin m ρ j d k y = ∑ c : Dev nD, part m ρ c k ((quartR (qd j d)).emb y) := by
  unfold fin
  rw [← V_add m ρ 2 (by decide) j d (bk d 1 k) k (qd j d) (by rw [bk_bk]; exact (bk_four d k).symm) rfl, bk_bk,
    ← V_add m ρ 1 (by decide) j d (bk d (1 + 1) k) k (qd j d) (by rw [bk_bk]; exact (bk_four d k).symm) rfl, bk_bk,
    ← V_add m ρ 0 (by decide) j d (bk d (1 + (1 + 1)) k) k (qd j d) (by rw [bk_bk]; exact (bk_four d k).symm) rfl, bk_bk,
    show bk d (1 + (1 + (1 + 1))) k = k from bk_four d k, V_zero, addV_apply, addV_apply, addV_apply]
  exact sum_ring (fun c => part m ρ c k ((quartR (qd j d)).emb y)) d k

theorem finRow_apply (k : Dev nD) (i : S512x512.Idx) : finRow m ρ k i = ∑ c : Dev nD, part m ρ c k i := by
  have hi : i ∈ (Finset.univ : Finset (Fin 4)).biUnion (fun q => (quartR q).set) := by rw [quart_cov]; exact Finset.mem_univ i
  obtain ⟨q, -, hq⟩ := Finset.mem_biUnion.mp hi
  obtain ⟨y, rfl⟩ : ∃ y : S512x128.Idx, (quartR q).emb y = i := (quartR q).exists_idx_of_mem hq
  have h1 : finRow m ρ k ((quartR q).emb y) = finQ m ρ k q y := congrFun (quart_joinQ (finQ m ρ k) q) y
  have h2 : qd (⟨q.val % 2, by omega⟩ : Fin 2) (⟨q.val / 2, by omega⟩ : Fin 2) = q := Fin.ext (by show 2 * (q.val / 2) + q.val % 2 = q.val; omega)
  rw [h1]
  unfold finQ
  rw [fin_apply, h2]

/-! ## Against the reference -/

/-- Position `r` of the `k`-th run of 512 out of 2048. -/
def glb (k : Dev nD) (r : Fin 512) : Fin 2048 := ⟨k.val * 512 + r.val, by have hk : k.val < 4 := k.isLt; have := r.isLt; omega⟩

/-- A sum over 2048 columns, in four runs of 512. -/
theorem sum_cols {M : Type} [AddCommMonoid M] (g : Fin 2048 → M) :
    ∑ c : Dev nD, ∑ a : Fin 512, g (glb c a) = ∑ b : Fin 2048, g b := by
  rw [← Fintype.sum_prod_type' (fun (c : Dev nD) (a : Fin 512) => g (glb c a))]
  refine Fintype.sum_equiv (finProdFinEquiv (m := 4) (n := 512)) _ _ fun x => congrArg g (Fin.ext ?_)
  show x.1.val * 512 + x.2.val = x.2.val + 512 * x.1.val
  omega

theorem rowR_emb (k : Dev nD) (r l : Fin 512) :
    (rowR k).emb (ix2 r l) = (ix2 (glb k r) l : S2048x512.Idx) := by
  funext a; apply Fin.ext
  match a with
  | ⟨0, _⟩ => show 512 * k.val + 1 * r.val = k.val * 512 + r.val; omega
  | ⟨1, _⟩ => show 0 + 1 * l.val = l.val; omega

/-- The whole arrays are four blocks each: `x` and the result by columns, `W1` by rows, `W2` by columns. -/
theorem tiles_x : Layout.Tiles ⟨2, ![2048, 512]⟩ ⟨2, ![2048, 2048]⟩ 1 4 := by decide
theorem tiles_w1 : Layout.Tiles ⟨2, ![512, 512]⟩ ⟨2, ![2048, 512]⟩ 0 4 := by decide
theorem tiles_w2 : Layout.Tiles ⟨2, ![512, 512]⟩ ⟨2, ![512, 2048]⟩ 1 4 := by decide

variable (x : FVec Ideal ⟨2, ![2048, 2048]⟩ .f32) (W1 : FVec Ideal ⟨2, ![2048, 512]⟩ .f32) (W2 : FVec Ideal ⟨2, ![512, 2048]⟩ .f32)

/-- The reference's result. -/
def refOut [Cert.ReferenceIdeal.Facts] : FVec Ideal ⟨2, ![2048, 2048]⟩ .f32 :=
  Host.dotGeneral Cert.ReferenceIdeal.dot_S2048x512_S512x2048_S2048x2048_1_0_0_1_n_n none
    (Host.dotGeneral Cert.ReferenceIdeal.dot_S2048x2048_S2048x512_S2048x512_1_0_0_1_n_n none x W1) W2

theorem refOut_apply [Cert.ReferenceIdeal.Facts] (r l : Fin 2048) :
    refOut x W1 W2 (ix2 r l) = ∑ b : Fin 512, (∑ a : Fin 2048, x (ix2 r a) * W1 (ix2 a b)) * W2 (ix2 b l) := by
  unfold refOut
  rw [show Cert.ReferenceIdeal.dot_S2048x512_S512x2048_S2048x2048_1_0_0_1_n_n = DotDims.plain 2048 512 2048 from rfl,
    show Cert.ReferenceIdeal.dot_S2048x2048_S2048x512_S2048x512_1_0_0_1_n_n = DotDims.plain 2048 2048 512 from rfl]
  refine (dotGeneral_plain_apply none _ W2 r l).trans (Finset.sum_congr rfl fun b _ => ?_)
  exact congrArg (· * _) (dotGeneral_plain_apply none x W1 r b)

variable (h0 : ∀ c : Dev nD, m ((c.tc : Thread nD τ).loc main_arg0) = Layout.block ⟨2, ![2048, 512]⟩ ⟨2, ![2048, 2048]⟩ 1 4 c x tiles_x)
  (h1 : ∀ c : Dev nD, m ((c.tc : Thread nD τ).loc main_arg1) = Layout.block ⟨2, ![512, 512]⟩ ⟨2, ![2048, 512]⟩ 0 4 c W1 tiles_w1)
  (h2 : ∀ c : Dev nD, m ((c.tc : Thread nD τ).loc main_arg2) = Layout.block ⟨2, ![512, 512]⟩ ⟨2, ![512, 2048]⟩ 1 4 c W2 tiles_w2)

include h0 h1 in
/-- A device's partial product: the sum over the columns it holds. -/
theorem part_apply (c k : Dev nD) (r l : Fin 512) :
    part m ρ c k (ix2 r l) = ∑ a : Fin 512,
      (fun b : Fin 2048 => x (ix2 (glb k r) b) * W1 (ix2 b l))
        (glb c a) := by
  unfold part
  rw [pay2_apply]
  refine Finset.sum_congr rfl fun a _ => ?_
  have ex : rowOf (xstg m ρ c) k (ix2 r a) = x (ix2 (glb k r) (glb c a)) := by
    unfold rowOf
    rw [rowR_emb, xstg_arg, h0 c, Layout.block_apply]
    refine congrArg x (funext fun b => Fin.ext ?_)
    match b with
    | ⟨0, _⟩ => rfl
    | ⟨1, _⟩ => rfl
  have ew : w1stg m ρ c (ix2 a l) = W1 (ix2 (glb c a) l) := by
    rw [w1stg_arg, h1 c, Layout.block_apply]
    refine congrArg W1 (funext fun b => Fin.ext ?_)
    match b with
    | ⟨0, _⟩ => rfl
    | ⟨1, _⟩ => rfl
  rw [ex, ew]

include h0 h1 in
/-- The finished row is the reference's first product. -/
theorem finRow_ref (k : Dev nD) (r l : Fin 512) :
    finRow m ρ k (ix2 r l) = ∑ b : Fin 2048, x (ix2 (glb k r) b) * W1 (ix2 b l) := by
  rw [finRow_apply, Finset.sum_congr rfl fun c _ => part_apply m ρ x W1 h0 h1 c k r l]
  exact sum_cols (fun b : Fin 2048 => x (ix2 (glb k r) b) * W1 (ix2 b l))

include h0 h1 h2 in
/-- Device `c`'s result is block `c` of the reference's. -/
theorem outAt_ref [Cert.ReferenceIdeal.Facts] (c : Dev nD) :
    outAt m ρ c = Layout.block ⟨2, ![2048, 512]⟩ ⟨2, ![2048, 2048]⟩ 1 4 c (refOut x W1 W2) tiles_x := by
  funext i
  have hi : i ∈ (Finset.univ : Finset (Dev nD)).biUnion (fun k => (rowR k).set) := by rw [rows_cov]; exact Finset.mem_univ i
  obtain ⟨k, -, hk⟩ := Finset.mem_biUnion.mp hi
  obtain ⟨y, rfl⟩ : ∃ y : S512x512.Idx, (rowR k).emb y = i := (rowR k).exists_idx_of_mem hk
  obtain ⟨r, l, rfl⟩ : ∃ (r l : Fin 512), y = ix2 r l := ⟨y 0, y 1, eq_ix2 y⟩
  have e : outAt m ρ c ((rowR k).emb (ix2 r l)) = outRow m ρ c k (ix2 r l) := congrFun (rowOf_joinR (outRow m ρ c) k) (ix2 r l)
  rw [e, rowR_emb, Layout.block_apply]
  rw [show (Layout.Tiles.idx (S := ⟨2, ![2048, 512]⟩) (T := ⟨2, ![2048, 2048]⟩) (a := 1) (k := 4) tiles_x c
      (ix2 (glb k r) l))
      = ix2 (glb k r) (glb c l) from
    funext fun b => Fin.ext (match b with
      | ⟨0, _⟩ => rfl
      | ⟨1, _⟩ => rfl)]
  rw [refOut_apply]
  unfold outRow
  rw [pay1_apply]
  refine Finset.sum_congr rfl fun b _ => ?_
  have ew : w2stg m ρ c (ix2 b l) = W2 (ix2 b (glb c l)) := by
    rw [w2stg_arg, h2 c, Layout.block_apply]
    refine congrArg W2 (funext fun b => Fin.ext ?_)
    match b with
    | ⟨0, _⟩ => rfl
    | ⟨1, _⟩ => rfl
  rw [finRow_ref m ρ x W1 h0 h1, ew]

end Cert.KernelIdealProof

end
-- ==== Proof.lean ====
/-
# The claims

The five claims of Defs.lean, put together: the frames of the kernel at the bit level and over the extended reals
(Proof/KernelRun.lean, Proof/KernelIdealRun.lean), the reference's frame, and the equality of kernel and reference
over the extended reals (Proof/KernelIdealValues.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealValues
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- `Cert.quiescent_Kernel`: the run at the bit-exact instance, read at the arguments and the counters. -/
theorem frame_kernel : Cert.quiescent_Kernel := fun m ρ _ => Cert.KernelProof.frame (F := Bits) m ρ

/-- `Cert.quiescent_KernelIdeal`: the same run over the extended reals. -/
theorem frame_kernelIdeal : Cert.quiescent_KernelIdeal := fun m ρ _ => Cert.KernelIdealProof.frame (F := Ideal) m ρ

/-- `Cert.quiescent_ReferenceIdeal`: the reference's run; it has no semaphore. -/
theorem frame_referenceIdeal : Cert.quiescent_ReferenceIdeal := fun m ρ _ =>
  (θ_run _ _ _).mono (fun r h => ⟨fun c => (h c).2, sem_eq_zero_of_no_sems rfl r.2⟩) (Cert.ReferenceIdeal.Value.run (F := Ideal) m ρ)

/-- `Cert.algebraic_KernelIdeal_ReferenceIdeal`: each device's result is its block of the reference's. -/
theorem algebraic : Cert.algebraic_KernelIdeal_ReferenceIdeal := by
  intro m ρ m' ρ' _ hagree
  refine ⟨Cert.KernelIdealProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run _ _ _).mono (fun r h c =>
      ⟨(h.1 c (3 : Fin 4)).trans ((Cert.KernelIdealProof.finalA_3 m ρ c).trans
          (Cert.KernelIdealProof.outAt_ref m ρ _ _ _ (fun c => (hagree c).1) (fun c => (hagree c).2.1) (fun c => (hagree c).2.2) c)),
        (h.1 c (0 : Fin 4)).trans (Cert.KernelIdealProof.finalA_0 m ρ c),
        (h.1 c (1 : Fin 4)).trans (Cert.KernelIdealProof.finalA_1 m ρ c),
        (h.1 c (2 : Fin 4)).trans (Cert.KernelIdealProof.finalA_2 m ρ c)⟩) (Cert.KernelIdealProof.run_main (F := Ideal) m ρ)
  · exact (θ_run _ _ _).mono (fun r h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
